-- ==== Defs.lean ====
def Pre_Kernel [hPre_floors_in_range : Cert.Pre_floors_in_range.Facts] (m : (ℓ : Loc Cert.Kernel.nD Cert.Kernel.τ Cert.Kernel.sig) → Buf (Elt Bits) ℓ) : Prop :=
  ∀ c : Dev Cert.Kernel.nD,
    (Cert.Pre_floors_in_range.fn (F := Bits) (m ((c.tc : Thread Cert.Kernel.nD Cert.Kernel.τ).loc Cert.Kernel.main_arg0))) = (fun _ => 1#1)

def Pre_KernelIdeal (m : (ℓ : Loc Cert.KernelIdeal.nD Cert.KernelIdeal.τ Cert.KernelIdeal.sig) → Buf (Elt Ideal) ℓ) : Prop :=
  True

def Pre_KernelIdeal_floors_in_range [hPre_floors_in_range : Cert.Pre_floors_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_floors_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] [hPre_floors_in_range : Cert.Pre_floors_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_floors_in_range [hKernelIdeal : Cert.KernelIdeal.Facts] [hPre_floors_in_range : Cert.Pre_floors_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_floors_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_floors_in_range : Cert.Pre_floors_in_range.Facts),
    quiescent_Kernel (hKernel := hKernel) (hPre_floors_in_range := hPre_floors_in_range)
    ∧ quiescent_KernelIdeal (hKernelIdeal := hKernelIdeal)
    ∧ quiescent_KernelIdeal_pre_floors_in_range (hKernelIdeal := hKernelIdeal) (hPre_floors_in_range := hPre_floors_in_range)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Pre_floors_in_range.lean ====
abbrev S16384x100 : Shape := ⟨2, ![16384, 100]⟩
abbrev S8388608 : Shape := ⟨1, ![8388608]⟩
abbrev S_ : Shape := ⟨0, ![]⟩

class Facts : Prop where
  bcast_S_S8388608 : S_.BroadcastsInDim S8388608 (![] : Fin 0 → Fin S8388608.rank)

variable [Facts]

def fn_part1 {F : FTy → Type} [FloatOps F] (main_v16 : IVec S8388608 32) : IVec S8388608 1 :=
  let main_c_5 : IVec S_ 32 := constantI S_ 32 0#32
  let main_v17 : IVec S8388608 32 := broadcastInDim S8388608 ![] bcast_S_S8388608 main_c_5
  let main_v18 : IVec S8388608 1 := cmpi .sge main_v16 main_v17
  let main_c_6 : IVec S_ 32 := constantI S_ 32 16384#32
  let main_v19 : IVec S8388608 32 := broadcastInDim S8388608 ![] bcast_S_S8388608 main_c_6
  let main_v20 : IVec S8388608 1 := cmpi .slt main_v16 main_v19
  let main_v21 : IVec S8388608 1 := andi main_v18 main_v20
  main_v21

def fn {F : FTy → Type} [FloatOps F] (main_arg0 : FVec F S16384x100 .f32) : IVec S8388608 1 :=
  let main_v0 : IVec S8388608 32 := iotaInDim S8388608 32 0
  let main_c : IVec S_ 32 := constantI S_ 32 1065353216#32
  let main_v1 : IVec S8388608 32 := broadcastInDim S8388608 ![] bcast_S_S8388608 main_c
  let main_v2 : IVec S8388608 32 := ori main_v0 main_v1
  let main_v3 : FVec F S8388608 .f32 := bitcastToFloat .f32 main_v2
  let main_cst : FVec F S_ .f32 := constant S_ .f32 0x3F800000#32
  let main_v4 : FVec F S8388608 .f32 := broadcastInDim S8388608 ![] bcast_S_S8388608 main_cst
  let main_v5 : FVec F S8388608 .f32 := subf main_v3 main_v4
  let main_cst_0 : FVec F S_ .f32 := constant S_ .f32 0x3F800000#32
  let main_cst_1 : FVec F S_ .f32 := constant S_ .f32 0x00000000#32
  let main_v6 : FVec F S_ .f32 := subf main_cst_0 main_cst_1
  let main_v7 : FVec F S8388608 .f32 := broadcastInDim S8388608 ![] bcast_S_S8388608 main_v6
  let main_v8 : FVec F S8388608 .f32 := mulf main_v5 main_v7
  let main_cst_2 : FVec F S_ .f32 := constant S_ .f32 0x00000000#32
  let main_v9 : FVec F S8388608 .f32 := broadcastInDim S8388608 ![] bcast_S_S8388608 main_cst_2
  let main_v10 : FVec F S8388608 .f32 := addf main_v8 main_v9
  let main_cst_3 : FVec F S_ .f32 := constant S_ .f32 0x00000000#32
  let main_v11 : FVec F S8388608 .f32 := broadcastInDim S8388608 ![] bcast_S_S8388608 main_cst_3
  let main_v12 : FVec F S8388608 .f32 := maximumf main_v11 main_v10
  let main_cst_4 : FVec F S_ .f32 := constant S_ .f32 0x46800000#32
  let main_v13 : FVec F S8388608 .f32 := broadcastInDim S8388608 ![] bcast_S_S8388608 main_cst_4
  let main_v14 : FVec F S8388608 .f32 := mulf main_v12 main_v13
  let main_v15 : FVec F S8388608 .f32 := Host.floor main_v14
  let main_v16 : IVec S8388608 32 := fptosi 32 main_v15
  fn_part1 (F := F) main_v16
-- ==== Kernel.lean ====
abbrev S16384x100 : Shape := ⟨2, ![16384, 100]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S1638400 : Shape := ⟨1, ![1638400]⟩
abbrev S51200 : Shape := ⟨1, ![51200]⟩

abbrev nBuf : Table → Nat
  | .hbm => 807
  | .local .scVector .vmem => 2
  | _ => 0

abbrev hbmTy0_0 (i : Nat) : BufTy := match i % 128 with
  | 0 => ⟨S16384x100, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16384x100, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .f32⟩
  | 126 => ⟨S_, .f32⟩
  | 127 => ⟨S_, .f32⟩
  | _ => ⟨S16384x100, .f32⟩

abbrev hbmTy0_2 (i : Nat) : BufTy := match i % 128 with
  | 0 => ⟨S_, .f32⟩
  | 1 => ⟨S1x1, .f32⟩
  | 2 => ⟨S1x1, .f32⟩
  | 3 => ⟨S1, .i32⟩
  | 4 => ⟨S_, .i32⟩
  | 5 => ⟨S1, .i32⟩
  | 6 => ⟨S_, .i32⟩
  | 7 => ⟨S16384x100, .i64⟩
  | 8 => ⟨S16384x100, .i64⟩
  | 9 => ⟨S_, .i64⟩
  | 10 => ⟨S16384x100, .i64⟩
  | 11 => ⟨S16384x100, .i64⟩
  | 12 => ⟨S_, .i64⟩
  | 13 => ⟨S16384x100, .i64⟩
  | 14 => ⟨S16384x100, .i64⟩
  | 15 => ⟨S16384x100, .i64⟩
  | 16 => ⟨S_, .i64⟩
  | 17 => ⟨S16384x100, .i64⟩
  | 18 => ⟨S16384x100, .i64⟩
  | 19 => ⟨S16384x100, .i32⟩
  | 20 => ⟨S16384x100, .i32⟩
  | 21 => ⟨S_, .i32⟩
  | 22 => ⟨S_, .i32⟩
  | 23 => ⟨S_, .i32⟩
  | 24 => ⟨S16384x100, .i32⟩
  | 25 => ⟨S16384x100, .i32⟩
  | 26 => ⟨S16384x100, .i32⟩
  | 27 => ⟨S16384x100, .i32⟩
  | 28 => ⟨S16384x100, .i32⟩
  | 29 => ⟨S_, .i32⟩
  | 30 => ⟨S16384x100, .i32⟩
  | 31 => ⟨S16384x100, .i32⟩
  | 32 => ⟨S_, .i32⟩
  | 33 => ⟨S16384x100, .i32⟩
  | 34 => ⟨S16384x100, .i32⟩
  | 35 => ⟨S16384x100, .i32⟩
  | 36 => ⟨S16384x100, .i32⟩
  | 37 => ⟨S16384x100, .i32⟩
  | 38 => ⟨S_, .i32⟩
  | 39 => ⟨S16384x100, .i32⟩
  | 40 => ⟨S16384x100, .i32⟩
  | 41 => ⟨S_, .i32⟩
  | 42 => ⟨S16384x100, .i32⟩
  | 43 => ⟨S16384x100, .i32⟩
  | 44 => ⟨S16384x100, .i32⟩
  | 45 => ⟨S16384x100, .i32⟩
  | 46 => ⟨S16384x100, .i32⟩
  | 47 => ⟨S_, .i32⟩
  | 48 => ⟨S16384x100, .i32⟩
  | 49 => ⟨S16384x100, .i32⟩
  | 50 => ⟨S_, .i32⟩
  | 51 => ⟨S16384x100, .i32⟩
  | 52 => ⟨S16384x100, .i32⟩
  | 53 => ⟨S16384x100, .i32⟩
  | 54 => ⟨S16384x100, .i32⟩
  | 55 => ⟨S16384x100, .i32⟩
  | 56 => ⟨S_, .i32⟩
  | 57 => ⟨S16384x100, .i32⟩
  | 58 => ⟨S16384x100, .i32⟩
  | 59 => ⟨S_, .i32⟩
  | 60 => ⟨S16384x100, .i32⟩
  | 61 => ⟨S16384x100, .i32⟩
  | 62 => ⟨S16384x100, .i32⟩
  | 63 => ⟨S16384x100, .i32⟩
  | 64 => ⟨S16384x100, .i32⟩
  | 65 => ⟨S16384x100, .i32⟩
  | 66 => ⟨S16384x100, .i32⟩
  | 67 => ⟨S16384x100, .i32⟩
  | 68 => ⟨S_, .i32⟩
  | 69 => ⟨S16384x100, .i32⟩
  | 70 => ⟨S16384x100, .i32⟩
  | 71 => ⟨S16384x100, .i32⟩
  | 72 => ⟨S_, .i32⟩
  | 73 => ⟨S16384x100, .i32⟩
  | 74 => ⟨S16384x100, .i32⟩
  | 75 => ⟨S_, .i32⟩
  | 76 => ⟨S16384x100, .i32⟩
  | 77 => ⟨S16384x100, .i32⟩
  | 78 => ⟨S16384x100, .i32⟩
  | 79 => ⟨S16384x100, .i32⟩
  | 80 => ⟨S16384x100, .i32⟩
  | 81 => ⟨S_, .i32⟩
  | 82 => ⟨S16384x100, .i32⟩
  | 83 => ⟨S16384x100, .i32⟩
  | 84 => ⟨S_, .i32⟩
  | 85 => ⟨S16384x100, .i32⟩
  | 86 => ⟨S16384x100, .i32⟩
  | 87 => ⟨S16384x100, .i32⟩
  | 88 => ⟨S16384x100, .i32⟩
  | 89 => ⟨S16384x100, .i32⟩
  | 90 => ⟨S_, .i32⟩
  | 91 => ⟨S16384x100, .i32⟩
  | 92 => ⟨S16384x100, .i32⟩
  | 93 => ⟨S_, .i32⟩
  | 94 => ⟨S16384x100, .i32⟩
  | 95 => ⟨S16384x100, .i32⟩
  | 96 => ⟨S16384x100, .i32⟩
  | 97 => ⟨S16384x100, .i32⟩
  | 98 => ⟨S16384x100, .i32⟩
  | 99 => ⟨S_, .i32⟩
  | 100 => ⟨S16384x100, .i32⟩
  | 101 => ⟨S16384x100, .i32⟩
  | 102 => ⟨S_, .i32⟩
  | 103 => ⟨S16384x100, .i32⟩
  | 104 => ⟨S16384x100, .i32⟩
  | 105 => ⟨S16384x100, .i32⟩
  | 106 => ⟨S16384x100, .i32⟩
  | 107 => ⟨S16384x100, .i32⟩
  | 108 => ⟨S16384x100, .i32⟩
  | 109 => ⟨S16384x100, .i32⟩
  | 110 => ⟨S16384x100, .i32⟩
  | 111 => ⟨S_, .i32⟩
  | 112 => ⟨S16384x100, .i32⟩
  | 113 => ⟨S16384x100, .i32⟩
  | 114 => ⟨S16384x100, .i32⟩
  | 115 => ⟨S_, .i32⟩
  | 116 => ⟨S16384x100, .i32⟩
  | 117 => ⟨S16384x100, .i32⟩
  | 118 => ⟨S_, .i32⟩
  | 119 => ⟨S16384x100, .i32⟩
  | 120 => ⟨S16384x100, .i32⟩
  | 121 => ⟨S16384x100, .i32⟩
  | 122 => ⟨S16384x100, .i32⟩
  | 123 => ⟨S16384x100, .i32⟩
  | 124 => ⟨S_, .i32⟩
  | 125 => ⟨S16384x100, .i32⟩
  | 126 => ⟨S16384x100, .i32⟩
  | 127 => ⟨S_, .i32⟩
  | _ => ⟨S16384x100, .f32⟩

abbrev hbmTy0_3 (i : Nat) : BufTy := match i % 128 with
  | 0 => ⟨S16384x100, .i32⟩
  | 1 => ⟨S16384x100, .i32⟩
  | 2 => ⟨S16384x100, .i32⟩
  | 3 => ⟨S16384x100, .i32⟩
  | 4 => ⟨S16384x100, .i32⟩
  | 5 => ⟨S_, .i32⟩
  | 6 => ⟨S16384x100, .i32⟩
  | 7 => ⟨S16384x100, .i32⟩
  | 8 => ⟨S_, .i32⟩
  | 9 => ⟨S16384x100, .i32⟩
  | 10 => ⟨S16384x100, .i32⟩
  | 11 => ⟨S16384x100, .i32⟩
  | 12 => ⟨S16384x100, .i32⟩
  | 13 => ⟨S16384x100, .i32⟩
  | 14 => ⟨S_, .i32⟩
  | 15 => ⟨S16384x100, .i32⟩
  | 16 => ⟨S16384x100, .i32⟩
  | 17 => ⟨S_, .i32⟩
  | 18 => ⟨S16384x100, .i32⟩
  | 19 => ⟨S16384x100, .i32⟩
  | 20 => ⟨S16384x100, .i32⟩
  | 21 => ⟨S16384x100, .i32⟩
  | 22 => ⟨S16384x100, .i32⟩
  | 23 => ⟨S16384x100, .i32⟩
  | 24 => ⟨S16384x100, .i32⟩
  | 25 => ⟨S16384x100, .i32⟩
  | 26 => ⟨S_, .i32⟩
  | 27 => ⟨S16384x100, .i32⟩
  | 28 => ⟨S16384x100, .i32⟩
  | 29 => ⟨S16384x100, .i32⟩
  | 30 => ⟨S_, .i32⟩
  | 31 => ⟨S16384x100, .i32⟩
  | 32 => ⟨S16384x100, .i32⟩
  | 33 => ⟨S_, .i32⟩
  | 34 => ⟨S16384x100, .i32⟩
  | 35 => ⟨S16384x100, .i32⟩
  | 36 => ⟨S16384x100, .i32⟩
  | 37 => ⟨S16384x100, .i32⟩
  | 38 => ⟨S16384x100, .i32⟩
  | 39 => ⟨S_, .i32⟩
  | 40 => ⟨S16384x100, .i32⟩
  | 41 => ⟨S16384x100, .i32⟩
  | 42 => ⟨S_, .i32⟩
  | 43 => ⟨S16384x100, .i32⟩
  | 44 => ⟨S16384x100, .i32⟩
  | 45 => ⟨S16384x100, .i32⟩
  | 46 => ⟨S16384x100, .i32⟩
  | 47 => ⟨S16384x100, .i32⟩
  | 48 => ⟨S_, .i32⟩
  | 49 => ⟨S16384x100, .i32⟩
  | 50 => ⟨S16384x100, .i32⟩
  | 51 => ⟨S_, .i32⟩
  | 52 => ⟨S16384x100, .i32⟩
  | 53 => ⟨S16384x100, .i32⟩
  | 54 => ⟨S16384x100, .i32⟩
  | 55 => ⟨S16384x100, .i32⟩
  | 56 => ⟨S16384x100, .i32⟩
  | 57 => ⟨S_, .i32⟩
  | 58 => ⟨S16384x100, .i32⟩
  | 59 => ⟨S16384x100, .i32⟩
  | 60 => ⟨S_, .i32⟩
  | 61 => ⟨S16384x100, .i32⟩
  | 62 => ⟨S16384x100, .i32⟩
  | 63 => ⟨S16384x100, .i32⟩
  | 64 => ⟨S16384x100, .i32⟩
  | 65 => ⟨S16384x100, .i32⟩
  | 66 => ⟨S16384x100, .i32⟩
  | 67 => ⟨S16384x100, .i32⟩
  | 68 => ⟨S16384x100, .i32⟩
  | 69 => ⟨S_, .i32⟩
  | 70 => ⟨S16384x100, .i32⟩
  | 71 => ⟨S16384x100, .i32⟩
  | 72 => ⟨S16384x100, .i32⟩
  | 73 => ⟨S_, .i32⟩
  | 74 => ⟨S16384x100, .i32⟩
  | 75 => ⟨S16384x100, .i32⟩
  | 76 => ⟨S_, .i32⟩
  | 77 => ⟨S16384x100, .i32⟩
  | 78 => ⟨S16384x100, .i32⟩
  | 79 => ⟨S16384x100, .i32⟩
  | 80 => ⟨S16384x100, .i32⟩
  | 81 => ⟨S16384x100, .i32⟩
  | 82 => ⟨S_, .i32⟩
  | 83 => ⟨S16384x100, .i32⟩
  | 84 => ⟨S16384x100, .i32⟩
  | 85 => ⟨S_, .i32⟩
  | 86 => ⟨S16384x100, .i32⟩
  | 87 => ⟨S16384x100, .i32⟩
  | 88 => ⟨S16384x100, .i32⟩
  | 89 => ⟨S16384x100, .i32⟩
  | 90 => ⟨S16384x100, .i32⟩
  | 91 => ⟨S_, .i32⟩
  | 92 => ⟨S16384x100, .i32⟩
  | 93 => ⟨S16384x100, .i32⟩
  | 94 => ⟨S_, .i32⟩
  | 95 => ⟨S16384x100, .i32⟩
  | 96 => ⟨S16384x100, .i32⟩
  | 97 => ⟨S16384x100, .i32⟩
  | 98 => ⟨S16384x100, .i32⟩
  | 99 => ⟨S16384x100, .i32⟩
  | 100 => ⟨S_, .i32⟩
  | 101 => ⟨S16384x100, .i32⟩
  | 102 => ⟨S16384x100, .i32⟩
  | 103 => ⟨S_, .i32⟩
  | 104 => ⟨S16384x100, .i32⟩
  | 105 => ⟨S16384x100, .i32⟩
  | 106 => ⟨S16384x100, .i32⟩
  | 107 => ⟨S16384x100, .i32⟩
  | 108 => ⟨S16384x100, .i32⟩
  | 109 => ⟨S16384x100, .i32⟩
  | 110 => ⟨S16384x100, .i32⟩
  | 111 => ⟨S16384x100, .i32⟩
  | 112 => ⟨S_, .i32⟩
  | 113 => ⟨S16384x100, .i32⟩
  | 114 => ⟨S16384x100, .i32⟩
  | 115 => ⟨S16384x100, .i32⟩
  | 116 => ⟨S_, .i32⟩
  | 117 => ⟨S16384x100, .i32⟩
  | 118 => ⟨S16384x100, .i32⟩
  | 119 => ⟨S_, .i32⟩
  | 120 => ⟨S16384x100, .i32⟩
  | 121 => ⟨S16384x100, .i32⟩
  | 122 => ⟨S16384x100, .f32⟩
  | 123 => ⟨S_, .f32⟩
  | 124 => ⟨S16384x100, .f32⟩
  | 125 => ⟨S16384x100, .f32⟩
  | 126 => ⟨S1x1, .f32⟩
  | 127 => ⟨S16384x100, .f32⟩
  | _ => ⟨S16384x100, .f32⟩

abbrev hbmTy0_4 (i : Nat) : BufTy := match i % 128 with
  | 0 => ⟨S16384x100, .f32⟩
  | 1 => ⟨S16384x100, .f32⟩
  | 2 => ⟨S16384x100, .f32⟩
  | 3 => ⟨S16384x100, .f32⟩
  | 4 => ⟨S16384x100, .f32⟩
  | 5 => ⟨S_, .f32⟩
  | 6 => ⟨S16384x100, .f32⟩
  | 7 => ⟨S16384x100, .i1⟩
  | 8 => ⟨S_, .f32⟩
  | 9 => ⟨S_, .f32⟩
  | 10 => ⟨S_, .f32⟩
  | 11 => ⟨S_, .f32⟩
  | 12 => ⟨S1x1, .f32⟩
  | 13 => ⟨S1x1, .f32⟩
  | 14 => ⟨S1, .i32⟩
  | 15 => ⟨S_, .i32⟩
  | 16 => ⟨S1, .i32⟩
  | 17 => ⟨S_, .i32⟩
  | 18 => ⟨S16384x100, .i64⟩
  | 19 => ⟨S16384x100, .i64⟩
  | 20 => ⟨S_, .i64⟩
  | 21 => ⟨S16384x100, .i64⟩
  | 22 => ⟨S16384x100, .i64⟩
  | 23 => ⟨S_, .i64⟩
  | 24 => ⟨S16384x100, .i64⟩
  | 25 => ⟨S16384x100, .i64⟩
  | 26 => ⟨S16384x100, .i64⟩
  | 27 => ⟨S_, .i64⟩
  | 28 => ⟨S16384x100, .i64⟩
  | 29 => ⟨S16384x100, .i64⟩
  | 30 => ⟨S16384x100, .i32⟩
  | 31 => ⟨S16384x100, .i32⟩
  | 32 => ⟨S_, .i32⟩
  | 33 => ⟨S_, .i32⟩
  | 34 => ⟨S_, .i32⟩
  | 35 => ⟨S16384x100, .i32⟩
  | 36 => ⟨S16384x100, .i32⟩
  | 37 => ⟨S16384x100, .i32⟩
  | 38 => ⟨S16384x100, .i32⟩
  | 39 => ⟨S16384x100, .i32⟩
  | 40 => ⟨S_, .i32⟩
  | 41 => ⟨S16384x100, .i32⟩
  | 42 => ⟨S16384x100, .i32⟩
  | 43 => ⟨S_, .i32⟩
  | 44 => ⟨S16384x100, .i32⟩
  | 45 => ⟨S16384x100, .i32⟩
  | 46 => ⟨S16384x100, .i32⟩
  | 47 => ⟨S16384x100, .i32⟩
  | 48 => ⟨S16384x100, .i32⟩
  | 49 => ⟨S_, .i32⟩
  | 50 => ⟨S16384x100, .i32⟩
  | 51 => ⟨S16384x100, .i32⟩
  | 52 => ⟨S_, .i32⟩
  | 53 => ⟨S16384x100, .i32⟩
  | 54 => ⟨S16384x100, .i32⟩
  | 55 => ⟨S16384x100, .i32⟩
  | 56 => ⟨S16384x100, .i32⟩
  | 57 => ⟨S16384x100, .i32⟩
  | 58 => ⟨S_, .i32⟩
  | 59 => ⟨S16384x100, .i32⟩
  | 60 => ⟨S16384x100, .i32⟩
  | 61 => ⟨S_, .i32⟩
  | 62 => ⟨S16384x100, .i32⟩
  | 63 => ⟨S16384x100, .i32⟩
  | 64 => ⟨S16384x100, .i32⟩
  | 65 => ⟨S16384x100, .i32⟩
  | 66 => ⟨S16384x100, .i32⟩
  | 67 => ⟨S_, .i32⟩
  | 68 => ⟨S16384x100, .i32⟩
  | 69 => ⟨S16384x100, .i32⟩
  | 70 => ⟨S_, .i32⟩
  | 71 => ⟨S16384x100, .i32⟩
  | 72 => ⟨S16384x100, .i32⟩
  | 73 => ⟨S16384x100, .i32⟩
  | 74 => ⟨S16384x100, .i32⟩
  | 75 => ⟨S16384x100, .i32⟩
  | 76 => ⟨S16384x100, .i32⟩
  | 77 => ⟨S16384x100, .i32⟩
  | 78 => ⟨S16384x100, .i32⟩
  | 79 => ⟨S_, .i32⟩
  | 80 => ⟨S16384x100, .i32⟩
  | 81 => ⟨S16384x100, .i32⟩
  | 82 => ⟨S16384x100, .i32⟩
  | 83 => ⟨S_, .i32⟩
  | 84 => ⟨S16384x100, .i32⟩
  | 85 => ⟨S16384x100, .i32⟩
  | 86 => ⟨S_, .i32⟩
  | 87 => ⟨S16384x100, .i32⟩
  | 88 => ⟨S16384x100, .i32⟩
  | 89 => ⟨S16384x100, .i32⟩
  | 90 => ⟨S16384x100, .i32⟩
  | 91 => ⟨S16384x100, .i32⟩
  | 92 => ⟨S_, .i32⟩
  | 93 => ⟨S16384x100, .i32⟩
  | 94 => ⟨S16384x100, .i32⟩
  | 95 => ⟨S_, .i32⟩
  | 96 => ⟨S16384x100, .i32⟩
  | 97 => ⟨S16384x100, .i32⟩
  | 98 => ⟨S16384x100, .i32⟩
  | 99 => ⟨S16384x100, .i32⟩
  | 100 => ⟨S16384x100, .i32⟩
  | 101 => ⟨S_, .i32⟩
  | 102 => ⟨S16384x100, .i32⟩
  | 103 => ⟨S16384x100, .i32⟩
  | 104 => ⟨S_, .i32⟩
  | 105 => ⟨S16384x100, .i32⟩
  | 106 => ⟨S16384x100, .i32⟩
  | 107 => ⟨S16384x100, .i32⟩
  | 108 => ⟨S16384x100, .i32⟩
  | 109 => ⟨S16384x100, .i32⟩
  | 110 => ⟨S_, .i32⟩
  | 111 => ⟨S16384x100, .i32⟩
  | 112 => ⟨S16384x100, .i32⟩
  | 113 => ⟨S_, .i32⟩
  | 114 => ⟨S16384x100, .i32⟩
  | 115 => ⟨S16384x100, .i32⟩
  | 116 => ⟨S16384x100, .i32⟩
  | 117 => ⟨S16384x100, .i32⟩
  | 118 => ⟨S16384x100, .i32⟩
  | 119 => ⟨S16384x100, .i32⟩
  | 120 => ⟨S16384x100, .i32⟩
  | 121 => ⟨S16384x100, .i32⟩
  | 122 => ⟨S_, .i32⟩
  | 123 => ⟨S16384x100, .i32⟩
  | 124 => ⟨S16384x100, .i32⟩
  | 125 => ⟨S16384x100, .i32⟩
  | 126 => ⟨S_, .i32⟩
  | 127 => ⟨S16384x100, .i32⟩
  | _ => ⟨S16384x100, .f32⟩

abbrev hbmTy0_5 (i : Nat) : BufTy := match i % 128 with
  | 0 => ⟨S16384x100, .i32⟩
  | 1 => ⟨S_, .i32⟩
  | 2 => ⟨S16384x100, .i32⟩
  | 3 => ⟨S16384x100, .i32⟩
  | 4 => ⟨S16384x100, .i32⟩
  | 5 => ⟨S16384x100, .i32⟩
  | 6 => ⟨S16384x100, .i32⟩
  | 7 => ⟨S_, .i32⟩
  | 8 => ⟨S16384x100, .i32⟩
  | 9 => ⟨S16384x100, .i32⟩
  | 10 => ⟨S_, .i32⟩
  | 11 => ⟨S16384x100, .i32⟩
  | 12 => ⟨S16384x100, .i32⟩
  | 13 => ⟨S16384x100, .i32⟩
  | 14 => ⟨S16384x100, .i32⟩
  | 15 => ⟨S16384x100, .i32⟩
  | 16 => ⟨S_, .i32⟩
  | 17 => ⟨S16384x100, .i32⟩
  | 18 => ⟨S16384x100, .i32⟩
  | 19 => ⟨S_, .i32⟩
  | 20 => ⟨S16384x100, .i32⟩
  | 21 => ⟨S16384x100, .i32⟩
  | 22 => ⟨S16384x100, .i32⟩
  | 23 => ⟨S16384x100, .i32⟩
  | 24 => ⟨S16384x100, .i32⟩
  | 25 => ⟨S_, .i32⟩
  | 26 => ⟨S16384x100, .i32⟩
  | 27 => ⟨S16384x100, .i32⟩
  | 28 => ⟨S_, .i32⟩
  | 29 => ⟨S16384x100, .i32⟩
  | 30 => ⟨S16384x100, .i32⟩
  | 31 => ⟨S16384x100, .i32⟩
  | 32 => ⟨S16384x100, .i32⟩
  | 33 => ⟨S16384x100, .i32⟩
  | 34 => ⟨S16384x100, .i32⟩
  | 35 => ⟨S16384x100, .i32⟩
  | 36 => ⟨S16384x100, .i32⟩
  | 37 => ⟨S_, .i32⟩
  | 38 => ⟨S16384x100, .i32⟩
  | 39 => ⟨S16384x100, .i32⟩
  | 40 => ⟨S16384x100, .i32⟩
  | 41 => ⟨S_, .i32⟩
  | 42 => ⟨S16384x100, .i32⟩
  | 43 => ⟨S16384x100, .i32⟩
  | 44 => ⟨S_, .i32⟩
  | 45 => ⟨S16384x100, .i32⟩
  | 46 => ⟨S16384x100, .i32⟩
  | 47 => ⟨S16384x100, .i32⟩
  | 48 => ⟨S16384x100, .i32⟩
  | 49 => ⟨S16384x100, .i32⟩
  | 50 => ⟨S_, .i32⟩
  | 51 => ⟨S16384x100, .i32⟩
  | 52 => ⟨S16384x100, .i32⟩
  | 53 => ⟨S_, .i32⟩
  | 54 => ⟨S16384x100, .i32⟩
  | 55 => ⟨S16384x100, .i32⟩
  | 56 => ⟨S16384x100, .i32⟩
  | 57 => ⟨S16384x100, .i32⟩
  | 58 => ⟨S16384x100, .i32⟩
  | 59 => ⟨S_, .i32⟩
  | 60 => ⟨S16384x100, .i32⟩
  | 61 => ⟨S16384x100, .i32⟩
  | 62 => ⟨S_, .i32⟩
  | 63 => ⟨S16384x100, .i32⟩
  | 64 => ⟨S16384x100, .i32⟩
  | 65 => ⟨S16384x100, .i32⟩
  | 66 => ⟨S16384x100, .i32⟩
  | 67 => ⟨S16384x100, .i32⟩
  | 68 => ⟨S_, .i32⟩
  | 69 => ⟨S16384x100, .i32⟩
  | 70 => ⟨S16384x100, .i32⟩
  | 71 => ⟨S_, .i32⟩
  | 72 => ⟨S16384x100, .i32⟩
  | 73 => ⟨S16384x100, .i32⟩
  | 74 => ⟨S16384x100, .i32⟩
  | 75 => ⟨S16384x100, .i32⟩
  | 76 => ⟨S16384x100, .i32⟩
  | 77 => ⟨S16384x100, .i32⟩
  | 78 => ⟨S16384x100, .i32⟩
  | 79 => ⟨S16384x100, .i32⟩
  | 80 => ⟨S_, .i32⟩
  | 81 => ⟨S16384x100, .i32⟩
  | 82 => ⟨S16384x100, .i32⟩
  | 83 => ⟨S16384x100, .i32⟩
  | 84 => ⟨S_, .i32⟩
  | 85 => ⟨S16384x100, .i32⟩
  | 86 => ⟨S16384x100, .i32⟩
  | 87 => ⟨S_, .i32⟩
  | 88 => ⟨S16384x100, .i32⟩
  | 89 => ⟨S16384x100, .i32⟩
  | 90 => ⟨S16384x100, .i32⟩
  | 91 => ⟨S16384x100, .i32⟩
  | 92 => ⟨S16384x100, .i32⟩
  | 93 => ⟨S_, .i32⟩
  | 94 => ⟨S16384x100, .i32⟩
  | 95 => ⟨S16384x100, .i32⟩
  | 96 => ⟨S_, .i32⟩
  | 97 => ⟨S16384x100, .i32⟩
  | 98 => ⟨S16384x100, .i32⟩
  | 99 => ⟨S16384x100, .i32⟩
  | 100 => ⟨S16384x100, .i32⟩
  | 101 => ⟨S16384x100, .i32⟩
  | 102 => ⟨S_, .i32⟩
  | 103 => ⟨S16384x100, .i32⟩
  | 104 => ⟨S16384x100, .i32⟩
  | 105 => ⟨S_, .i32⟩
  | 106 => ⟨S16384x100, .i32⟩
  | 107 => ⟨S16384x100, .i32⟩
  | 108 => ⟨S16384x100, .i32⟩
  | 109 => ⟨S16384x100, .i32⟩
  | 110 => ⟨S16384x100, .i32⟩
  | 111 => ⟨S_, .i32⟩
  | 112 => ⟨S16384x100, .i32⟩
  | 113 => ⟨S16384x100, .i32⟩
  | 114 => ⟨S_, .i32⟩
  | 115 => ⟨S16384x100, .i32⟩
  | 116 => ⟨S16384x100, .i32⟩
  | 117 => ⟨S16384x100, .i32⟩
  | 118 => ⟨S16384x100, .i32⟩
  | 119 => ⟨S16384x100, .i32⟩
  | 120 => ⟨S16384x100, .i32⟩
  | 121 => ⟨S16384x100, .i32⟩
  | 122 => ⟨S16384x100, .i32⟩
  | 123 => ⟨S_, .i32⟩
  | 124 => ⟨S16384x100, .i32⟩
  | 125 => ⟨S16384x100, .i32⟩
  | 126 => ⟨S16384x100, .i32⟩
  | 127 => ⟨S_, .i32⟩
  | _ => ⟨S16384x100, .f32⟩

abbrev hbmTy0_6 (i : Nat) : BufTy := match i % 128 with
  | 0 => ⟨S16384x100, .i32⟩
  | 1 => ⟨S16384x100, .i32⟩
  | 2 => ⟨S_, .i32⟩
  | 3 => ⟨S16384x100, .i32⟩
  | 4 => ⟨S16384x100, .i32⟩
  | 5 => ⟨S16384x100, .f32⟩
  | 6 => ⟨S_, .f32⟩
  | 7 => ⟨S16384x100, .f32⟩
  | 8 => ⟨S16384x100, .f32⟩
  | 9 => ⟨S1x1, .f32⟩
  | 10 => ⟨S16384x100, .f32⟩
  | 11 => ⟨S16384x100, .f32⟩
  | 12 => ⟨S16384x100, .f32⟩
  | 13 => ⟨S16384x100, .f32⟩
  | 14 => ⟨S16384x100, .f32⟩
  | 15 => ⟨S16384x100, .f32⟩
  | 16 => ⟨S_, .f32⟩
  | 17 => ⟨S16384x100, .f32⟩
  | 18 => ⟨S16384x100, .f32⟩
  | 19 => ⟨S16384x100, .f32⟩
  | 20 => ⟨S16384x100, .i32⟩
  | 21 => ⟨S16384x100, .i32⟩
  | 22 => ⟨S_, .i32⟩
  | 23 => ⟨S16384x100, .i32⟩
  | 24 => ⟨S16384x100, .i32⟩
  | 25 => ⟨S16384x100, .i32⟩
  | 26 => ⟨S1638400, .i32⟩
  | 27 => ⟨S1638400, .i32⟩
  | 28 => ⟨S1638400, .i32⟩
  | 29 => ⟨S_, .i32⟩
  | 30 => ⟨S1638400, .i32⟩
  | 31 => ⟨S1638400, .i1⟩
  | 32 => ⟨S_, .i32⟩
  | 33 => ⟨S1638400, .i32⟩
  | 34 => ⟨S1638400, .i32⟩
  | 35 => ⟨S1638400, .i32⟩
  | 36 => ⟨S1638400, .f32⟩
  | 37 => ⟨S1638400, .f32⟩
  | 38 => ⟨S16384x100, .f32⟩
  | _ => ⟨S16384x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x100, .f32⟩

abbrev bufTy : (tb : Table) → Fin (nBuf tb) → BufTy
  | .hbm, ⟨i, _⟩ => hbmTy i
  | .local .scVector .vmem, ⟨0, _⟩ => ⟨S51200, .i32⟩
  | .local .scVector .vmem, ⟨1, _⟩ => ⟨S51200, .f32⟩
  | _, _ => ⟨S16384x100, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_cst : Ref sig .tc := ⟨.hbm, 253, rfl⟩
abbrev main_cst_2 : Ref sig .tc := ⟨.hbm, 254, rfl⟩
abbrev main_call1_v0 : Ref sig .tc := ⟨.hbm, 255, rfl⟩
abbrev main_call1_v1 : Ref sig .tc := ⟨.hbm, 256, rfl⟩
abbrev main_call1_v2 : Ref sig .tc := ⟨.hbm, 257, rfl⟩
abbrev main_call1_v3 : Ref sig .tc := ⟨.hbm, 258, rfl⟩
abbrev main_call1_v4 : Ref sig .tc := ⟨.hbm, 259, rfl⟩
abbrev main_call1_v5 : Ref sig .tc := ⟨.hbm, 260, rfl⟩
abbrev main_call1_v6 : Ref sig .tc := ⟨.hbm, 261, rfl⟩
abbrev main_call1_v7 : Ref sig .tc := ⟨.hbm, 262, rfl⟩
abbrev main_call1_v8 : Ref sig .tc := ⟨.hbm, 263, rfl⟩
abbrev main_call1_v9 : Ref sig .tc := ⟨.hbm, 264, rfl⟩
abbrev main_call1_c : Ref sig .tc := ⟨.hbm, 265, rfl⟩
abbrev main_call1_v10 : Ref sig .tc := ⟨.hbm, 266, rfl⟩
abbrev main_call1_v11 : Ref sig .tc := ⟨.hbm, 267, rfl⟩
abbrev main_call1_c_0 : Ref sig .tc := ⟨.hbm, 268, rfl⟩
abbrev main_call1_v12 : Ref sig .tc := ⟨.hbm, 269, rfl⟩
abbrev main_call1_v13 : Ref sig .tc := ⟨.hbm, 270, rfl⟩
abbrev main_call1_v14 : Ref sig .tc := ⟨.hbm, 271, rfl⟩
abbrev main_call1_c_1 : Ref sig .tc := ⟨.hbm, 272, rfl⟩
abbrev main_call1_v15 : Ref sig .tc := ⟨.hbm, 273, rfl⟩
abbrev main_call1_v16 : Ref sig .tc := ⟨.hbm, 274, rfl⟩
abbrev main_call1_v17 : Ref sig .tc := ⟨.hbm, 275, rfl⟩
abbrev main_call1_v18 : Ref sig .tc := ⟨.hbm, 276, rfl⟩
abbrev main_call1_call0_v0 : Ref sig .tc := ⟨.hbm, 277, rfl⟩
abbrev main_call1_call0_c : Ref sig .tc := ⟨.hbm, 278, rfl⟩
abbrev main_call1_call0_v1 : Ref sig .tc := ⟨.hbm, 279, rfl⟩
abbrev main_call1_call0_v2 : Ref sig .tc := ⟨.hbm, 280, rfl⟩
abbrev main_call1_call0_v3 : Ref sig .tc := ⟨.hbm, 281, rfl⟩
abbrev main_call1_call0_v4 : Ref sig .tc := ⟨.hbm, 282, rfl⟩
abbrev main_call1_call0_v5 : Ref sig .tc := ⟨.hbm, 283, rfl⟩
abbrev main_call1_call0_v6 : Ref sig .tc := ⟨.hbm, 284, rfl⟩
abbrev main_call1_call0_c_0 : Ref sig .tc := ⟨.hbm, 285, rfl⟩
abbrev main_call1_call0_v7 : Ref sig .tc := ⟨.hbm, 286, rfl⟩
abbrev main_call1_call0_v8 : Ref sig .tc := ⟨.hbm, 287, rfl⟩
abbrev main_call1_call0_c_1 : Ref sig .tc := ⟨.hbm, 288, rfl⟩
abbrev main_call1_call0_v9 : Ref sig .tc := ⟨.hbm, 289, rfl⟩
abbrev main_call1_call0_v10 : Ref sig .tc := ⟨.hbm, 290, rfl⟩
abbrev main_call1_call0_v11 : Ref sig .tc := ⟨.hbm, 291, rfl⟩
abbrev main_call1_call0_v12 : Ref sig .tc := ⟨.hbm, 292, rfl⟩
abbrev main_call1_call0_v13 : Ref sig .tc := ⟨.hbm, 293, rfl⟩
abbrev main_call1_call0_c_2 : Ref sig .tc := ⟨.hbm, 294, rfl⟩
abbrev main_call1_call0_v14 : Ref sig .tc := ⟨.hbm, 295, rfl⟩
abbrev main_call1_call0_v15 : Ref sig .tc := ⟨.hbm, 296, rfl⟩
abbrev main_call1_call0_c_3 : Ref sig .tc := ⟨.hbm, 297, rfl⟩
abbrev main_call1_call0_v16 : Ref sig .tc := ⟨.hbm, 298, rfl⟩
abbrev main_call1_call0_v17 : Ref sig .tc := ⟨.hbm, 299, rfl⟩
abbrev main_call1_call0_v18 : Ref sig .tc := ⟨.hbm, 300, rfl⟩
abbrev main_call1_call0_v19 : Ref sig .tc := ⟨.hbm, 301, rfl⟩
abbrev main_call1_call0_v20 : Ref sig .tc := ⟨.hbm, 302, rfl⟩
abbrev main_call1_call0_c_4 : Ref sig .tc := ⟨.hbm, 303, rfl⟩
abbrev main_call1_call0_v21 : Ref sig .tc := ⟨.hbm, 304, rfl⟩
abbrev main_call1_call0_v22 : Ref sig .tc := ⟨.hbm, 305, rfl⟩
abbrev main_call1_call0_c_5 : Ref sig .tc := ⟨.hbm, 306, rfl⟩
abbrev main_call1_call0_v23 : Ref sig .tc := ⟨.hbm, 307, rfl⟩
abbrev main_call1_call0_v24 : Ref sig .tc := ⟨.hbm, 308, rfl⟩
abbrev main_call1_call0_v25 : Ref sig .tc := ⟨.hbm, 309, rfl⟩
abbrev main_call1_call0_v26 : Ref sig .tc := ⟨.hbm, 310, rfl⟩
abbrev main_call1_call0_v27 : Ref sig .tc := ⟨.hbm, 311, rfl⟩
abbrev main_call1_call0_c_6 : Ref sig .tc := ⟨.hbm, 312, rfl⟩
abbrev main_call1_call0_v28 : Ref sig .tc := ⟨.hbm, 313, rfl⟩
abbrev main_call1_call0_v29 : Ref sig .tc := ⟨.hbm, 314, rfl⟩
abbrev main_call1_call0_c_7 : Ref sig .tc := ⟨.hbm, 315, rfl⟩
abbrev main_call1_call0_v30 : Ref sig .tc := ⟨.hbm, 316, rfl⟩
abbrev main_call1_call0_v31 : Ref sig .tc := ⟨.hbm, 317, rfl⟩
abbrev main_call1_call0_v32 : Ref sig .tc := ⟨.hbm, 318, rfl⟩
abbrev main_call1_call0_v33 : Ref sig .tc := ⟨.hbm, 319, rfl⟩
abbrev main_call1_call0_v34 : Ref sig .tc := ⟨.hbm, 320, rfl⟩
abbrev main_call1_call0_v35 : Ref sig .tc := ⟨.hbm, 321, rfl⟩
abbrev main_call1_call0_v36 : Ref sig .tc := ⟨.hbm, 322, rfl⟩
abbrev main_call1_call0_v37 : Ref sig .tc := ⟨.hbm, 323, rfl⟩
abbrev main_call1_call0_c_8 : Ref sig .tc := ⟨.hbm, 324, rfl⟩
abbrev main_call1_call0_v38 : Ref sig .tc := ⟨.hbm, 325, rfl⟩
abbrev main_call1_call0_v39 : Ref sig .tc := ⟨.hbm, 326, rfl⟩
abbrev main_call1_call0_v40 : Ref sig .tc := ⟨.hbm, 327, rfl⟩
abbrev main_call1_call0_c_9 : Ref sig .tc := ⟨.hbm, 328, rfl⟩
abbrev main_call1_call0_v41 : Ref sig .tc := ⟨.hbm, 329, rfl⟩
abbrev main_call1_call0_v42 : Ref sig .tc := ⟨.hbm, 330, rfl⟩
abbrev main_call1_call0_c_10 : Ref sig .tc := ⟨.hbm, 331, rfl⟩
abbrev main_call1_call0_v43 : Ref sig .tc := ⟨.hbm, 332, rfl⟩
abbrev main_call1_call0_v44 : Ref sig .tc := ⟨.hbm, 333, rfl⟩
abbrev main_call1_call0_v45 : Ref sig .tc := ⟨.hbm, 334, rfl⟩
abbrev main_call1_call0_v46 : Ref sig .tc := ⟨.hbm, 335, rfl⟩
abbrev main_call1_call0_v47 : Ref sig .tc := ⟨.hbm, 336, rfl⟩
abbrev main_call1_call0_c_11 : Ref sig .tc := ⟨.hbm, 337, rfl⟩
abbrev main_call1_call0_v48 : Ref sig .tc := ⟨.hbm, 338, rfl⟩
abbrev main_call1_call0_v49 : Ref sig .tc := ⟨.hbm, 339, rfl⟩
abbrev main_call1_call0_c_12 : Ref sig .tc := ⟨.hbm, 340, rfl⟩
abbrev main_call1_call0_v50 : Ref sig .tc := ⟨.hbm, 341, rfl⟩
abbrev main_call1_call0_v51 : Ref sig .tc := ⟨.hbm, 342, rfl⟩
abbrev main_call1_call0_v52 : Ref sig .tc := ⟨.hbm, 343, rfl⟩
abbrev main_call1_call0_v53 : Ref sig .tc := ⟨.hbm, 344, rfl⟩
abbrev main_call1_call0_v54 : Ref sig .tc := ⟨.hbm, 345, rfl⟩
abbrev main_call1_call0_c_13 : Ref sig .tc := ⟨.hbm, 346, rfl⟩
abbrev main_call1_call0_v55 : Ref sig .tc := ⟨.hbm, 347, rfl⟩
abbrev main_call1_call0_v56 : Ref sig .tc := ⟨.hbm, 348, rfl⟩
abbrev main_call1_call0_c_14 : Ref sig .tc := ⟨.hbm, 349, rfl⟩
abbrev main_call1_call0_v57 : Ref sig .tc := ⟨.hbm, 350, rfl⟩
abbrev main_call1_call0_v58 : Ref sig .tc := ⟨.hbm, 351, rfl⟩
abbrev main_call1_call0_v59 : Ref sig .tc := ⟨.hbm, 352, rfl⟩
abbrev main_call1_call0_v60 : Ref sig .tc := ⟨.hbm, 353, rfl⟩
abbrev main_call1_call0_v61 : Ref sig .tc := ⟨.hbm, 354, rfl⟩
abbrev main_call1_call0_c_15 : Ref sig .tc := ⟨.hbm, 355, rfl⟩
abbrev main_call1_call0_v62 : Ref sig .tc := ⟨.hbm, 356, rfl⟩
abbrev main_call1_call0_v63 : Ref sig .tc := ⟨.hbm, 357, rfl⟩
abbrev main_call1_call0_c_16 : Ref sig .tc := ⟨.hbm, 358, rfl⟩
abbrev main_call1_call0_v64 : Ref sig .tc := ⟨.hbm, 359, rfl⟩
abbrev main_call1_call0_v65 : Ref sig .tc := ⟨.hbm, 360, rfl⟩
abbrev main_call1_call0_v66 : Ref sig .tc := ⟨.hbm, 361, rfl⟩
abbrev main_call1_call0_v67 : Ref sig .tc := ⟨.hbm, 362, rfl⟩
abbrev main_call1_call0_v68 : Ref sig .tc := ⟨.hbm, 363, rfl⟩
abbrev main_call1_call0_v69 : Ref sig .tc := ⟨.hbm, 364, rfl⟩
abbrev main_call1_call0_v70 : Ref sig .tc := ⟨.hbm, 365, rfl⟩
abbrev main_call1_call0_v71 : Ref sig .tc := ⟨.hbm, 366, rfl⟩
abbrev main_call1_call0_c_17 : Ref sig .tc := ⟨.hbm, 367, rfl⟩
abbrev main_call1_call0_v72 : Ref sig .tc := ⟨.hbm, 368, rfl⟩
abbrev main_call1_call0_v73 : Ref sig .tc := ⟨.hbm, 369, rfl⟩
abbrev main_call1_call0_v74 : Ref sig .tc := ⟨.hbm, 370, rfl⟩
abbrev main_call1_call0_c_18 : Ref sig .tc := ⟨.hbm, 371, rfl⟩
abbrev main_call1_call0_v75 : Ref sig .tc := ⟨.hbm, 372, rfl⟩
abbrev main_call1_call0_v76 : Ref sig .tc := ⟨.hbm, 373, rfl⟩
abbrev main_call1_call0_c_19 : Ref sig .tc := ⟨.hbm, 374, rfl⟩
abbrev main_call1_call0_v77 : Ref sig .tc := ⟨.hbm, 375, rfl⟩
abbrev main_call1_call0_v78 : Ref sig .tc := ⟨.hbm, 376, rfl⟩
abbrev main_call1_call0_v79 : Ref sig .tc := ⟨.hbm, 377, rfl⟩
abbrev main_call1_call0_v80 : Ref sig .tc := ⟨.hbm, 378, rfl⟩
abbrev main_call1_call0_v81 : Ref sig .tc := ⟨.hbm, 379, rfl⟩
abbrev main_call1_call0_c_20 : Ref sig .tc := ⟨.hbm, 380, rfl⟩
abbrev main_call1_call0_v82 : Ref sig .tc := ⟨.hbm, 381, rfl⟩
abbrev main_call1_call0_v83 : Ref sig .tc := ⟨.hbm, 382, rfl⟩
abbrev main_call1_call0_c_21 : Ref sig .tc := ⟨.hbm, 383, rfl⟩
abbrev main_call1_call0_v84 : Ref sig .tc := ⟨.hbm, 384, rfl⟩
abbrev main_call1_call0_v85 : Ref sig .tc := ⟨.hbm, 385, rfl⟩
abbrev main_call1_call0_v86 : Ref sig .tc := ⟨.hbm, 386, rfl⟩
abbrev main_call1_call0_v87 : Ref sig .tc := ⟨.hbm, 387, rfl⟩
abbrev main_call1_call0_v88 : Ref sig .tc := ⟨.hbm, 388, rfl⟩
abbrev main_call1_call0_c_22 : Ref sig .tc := ⟨.hbm, 389, rfl⟩
abbrev main_call1_call0_v89 : Ref sig .tc := ⟨.hbm, 390, rfl⟩
abbrev main_call1_call0_v90 : Ref sig .tc := ⟨.hbm, 391, rfl⟩
abbrev main_call1_call0_c_23 : Ref sig .tc := ⟨.hbm, 392, rfl⟩
abbrev main_call1_call0_v91 : Ref sig .tc := ⟨.hbm, 393, rfl⟩
abbrev main_call1_call0_v92 : Ref sig .tc := ⟨.hbm, 394, rfl⟩
abbrev main_call1_call0_v93 : Ref sig .tc := ⟨.hbm, 395, rfl⟩
abbrev main_call1_call0_v94 : Ref sig .tc := ⟨.hbm, 396, rfl⟩
abbrev main_call1_call0_v95 : Ref sig .tc := ⟨.hbm, 397, rfl⟩
abbrev main_call1_call0_c_24 : Ref sig .tc := ⟨.hbm, 398, rfl⟩
abbrev main_call1_call0_v96 : Ref sig .tc := ⟨.hbm, 399, rfl⟩
abbrev main_call1_call0_v97 : Ref sig .tc := ⟨.hbm, 400, rfl⟩
abbrev main_call1_call0_c_25 : Ref sig .tc := ⟨.hbm, 401, rfl⟩
abbrev main_call1_call0_v98 : Ref sig .tc := ⟨.hbm, 402, rfl⟩
abbrev main_call1_call0_v99 : Ref sig .tc := ⟨.hbm, 403, rfl⟩
abbrev main_call1_call0_v100 : Ref sig .tc := ⟨.hbm, 404, rfl⟩
abbrev main_call1_call0_v101 : Ref sig .tc := ⟨.hbm, 405, rfl⟩
abbrev main_call1_call0_v102 : Ref sig .tc := ⟨.hbm, 406, rfl⟩
abbrev main_call1_call0_v103 : Ref sig .tc := ⟨.hbm, 407, rfl⟩
abbrev main_call1_call0_v104 : Ref sig .tc := ⟨.hbm, 408, rfl⟩
abbrev main_call1_call0_v105 : Ref sig .tc := ⟨.hbm, 409, rfl⟩
abbrev main_call1_call0_c_26 : Ref sig .tc := ⟨.hbm, 410, rfl⟩
abbrev main_call1_call0_v106 : Ref sig .tc := ⟨.hbm, 411, rfl⟩
abbrev main_call1_call0_v107 : Ref sig .tc := ⟨.hbm, 412, rfl⟩
abbrev main_call1_call0_v108 : Ref sig .tc := ⟨.hbm, 413, rfl⟩
abbrev main_call1_call0_c_27 : Ref sig .tc := ⟨.hbm, 414, rfl⟩
abbrev main_call1_call0_v109 : Ref sig .tc := ⟨.hbm, 415, rfl⟩
abbrev main_call1_call0_v110 : Ref sig .tc := ⟨.hbm, 416, rfl⟩
abbrev main_call1_call0_c_28 : Ref sig .tc := ⟨.hbm, 417, rfl⟩
abbrev main_call1_call0_v111 : Ref sig .tc := ⟨.hbm, 418, rfl⟩
abbrev main_call1_call0_v112 : Ref sig .tc := ⟨.hbm, 419, rfl⟩
abbrev main_call1_call0_v113 : Ref sig .tc := ⟨.hbm, 420, rfl⟩
abbrev main_call1_call0_v114 : Ref sig .tc := ⟨.hbm, 421, rfl⟩
abbrev main_call1_call0_v115 : Ref sig .tc := ⟨.hbm, 422, rfl⟩
abbrev main_call1_call0_c_29 : Ref sig .tc := ⟨.hbm, 423, rfl⟩
abbrev main_call1_call0_v116 : Ref sig .tc := ⟨.hbm, 424, rfl⟩
abbrev main_call1_call0_v117 : Ref sig .tc := ⟨.hbm, 425, rfl⟩
abbrev main_call1_call0_c_30 : Ref sig .tc := ⟨.hbm, 426, rfl⟩
abbrev main_call1_call0_v118 : Ref sig .tc := ⟨.hbm, 427, rfl⟩
abbrev main_call1_call0_v119 : Ref sig .tc := ⟨.hbm, 428, rfl⟩
abbrev main_call1_call0_v120 : Ref sig .tc := ⟨.hbm, 429, rfl⟩
abbrev main_call1_call0_v121 : Ref sig .tc := ⟨.hbm, 430, rfl⟩
abbrev main_call1_call0_v122 : Ref sig .tc := ⟨.hbm, 431, rfl⟩
abbrev main_call1_call0_c_31 : Ref sig .tc := ⟨.hbm, 432, rfl⟩
abbrev main_call1_call0_v123 : Ref sig .tc := ⟨.hbm, 433, rfl⟩
abbrev main_call1_call0_v124 : Ref sig .tc := ⟨.hbm, 434, rfl⟩
abbrev main_call1_call0_c_32 : Ref sig .tc := ⟨.hbm, 435, rfl⟩
abbrev main_call1_call0_v125 : Ref sig .tc := ⟨.hbm, 436, rfl⟩
abbrev main_call1_call0_v126 : Ref sig .tc := ⟨.hbm, 437, rfl⟩
abbrev main_call1_call0_v127 : Ref sig .tc := ⟨.hbm, 438, rfl⟩
abbrev main_call1_call0_v128 : Ref sig .tc := ⟨.hbm, 439, rfl⟩
abbrev main_call1_call0_v129 : Ref sig .tc := ⟨.hbm, 440, rfl⟩
abbrev main_call1_call0_c_33 : Ref sig .tc := ⟨.hbm, 441, rfl⟩
abbrev main_call1_call0_v130 : Ref sig .tc := ⟨.hbm, 442, rfl⟩
abbrev main_call1_call0_v131 : Ref sig .tc := ⟨.hbm, 443, rfl⟩
abbrev main_call1_call0_c_34 : Ref sig .tc := ⟨.hbm, 444, rfl⟩
abbrev main_call1_call0_v132 : Ref sig .tc := ⟨.hbm, 445, rfl⟩
abbrev main_call1_call0_v133 : Ref sig .tc := ⟨.hbm, 446, rfl⟩
abbrev main_call1_call0_v134 : Ref sig .tc := ⟨.hbm, 447, rfl⟩
abbrev main_call1_call0_v135 : Ref sig .tc := ⟨.hbm, 448, rfl⟩
abbrev main_call1_call0_v136 : Ref sig .tc := ⟨.hbm, 449, rfl⟩
abbrev main_call1_call0_v137 : Ref sig .tc := ⟨.hbm, 450, rfl⟩
abbrev main_call1_call0_v138 : Ref sig .tc := ⟨.hbm, 451, rfl⟩
abbrev main_call1_call0_v139 : Ref sig .tc := ⟨.hbm, 452, rfl⟩
abbrev main_call1_call0_c_35 : Ref sig .tc := ⟨.hbm, 453, rfl⟩
abbrev main_call1_call0_v140 : Ref sig .tc := ⟨.hbm, 454, rfl⟩
abbrev main_call1_call0_v141 : Ref sig .tc := ⟨.hbm, 455, rfl⟩
abbrev main_call1_call0_v142 : Ref sig .tc := ⟨.hbm, 456, rfl⟩
abbrev main_call1_call0_c_36 : Ref sig .tc := ⟨.hbm, 457, rfl⟩
abbrev main_call1_call0_v143 : Ref sig .tc := ⟨.hbm, 458, rfl⟩
abbrev main_call1_call0_v144 : Ref sig .tc := ⟨.hbm, 459, rfl⟩
abbrev main_call1_call0_c_37 : Ref sig .tc := ⟨.hbm, 460, rfl⟩
abbrev main_call1_call0_v145 : Ref sig .tc := ⟨.hbm, 461, rfl⟩
abbrev main_call1_call0_v146 : Ref sig .tc := ⟨.hbm, 462, rfl⟩
abbrev main_call1_call0_v147 : Ref sig .tc := ⟨.hbm, 463, rfl⟩
abbrev main_call1_call0_v148 : Ref sig .tc := ⟨.hbm, 464, rfl⟩
abbrev main_call1_call0_v149 : Ref sig .tc := ⟨.hbm, 465, rfl⟩
abbrev main_call1_call0_c_38 : Ref sig .tc := ⟨.hbm, 466, rfl⟩
abbrev main_call1_call0_v150 : Ref sig .tc := ⟨.hbm, 467, rfl⟩
abbrev main_call1_call0_v151 : Ref sig .tc := ⟨.hbm, 468, rfl⟩
abbrev main_call1_call0_c_39 : Ref sig .tc := ⟨.hbm, 469, rfl⟩
abbrev main_call1_call0_v152 : Ref sig .tc := ⟨.hbm, 470, rfl⟩
abbrev main_call1_call0_v153 : Ref sig .tc := ⟨.hbm, 471, rfl⟩
abbrev main_call1_call0_v154 : Ref sig .tc := ⟨.hbm, 472, rfl⟩
abbrev main_call1_call0_v155 : Ref sig .tc := ⟨.hbm, 473, rfl⟩
abbrev main_call1_call0_v156 : Ref sig .tc := ⟨.hbm, 474, rfl⟩
abbrev main_call1_call0_c_40 : Ref sig .tc := ⟨.hbm, 475, rfl⟩
abbrev main_call1_call0_v157 : Ref sig .tc := ⟨.hbm, 476, rfl⟩
abbrev main_call1_call0_v158 : Ref sig .tc := ⟨.hbm, 477, rfl⟩
abbrev main_call1_call0_c_41 : Ref sig .tc := ⟨.hbm, 478, rfl⟩
abbrev main_call1_call0_v159 : Ref sig .tc := ⟨.hbm, 479, rfl⟩
abbrev main_call1_call0_v160 : Ref sig .tc := ⟨.hbm, 480, rfl⟩
abbrev main_call1_call0_v161 : Ref sig .tc := ⟨.hbm, 481, rfl⟩
abbrev main_call1_call0_v162 : Ref sig .tc := ⟨.hbm, 482, rfl⟩
abbrev main_call1_call0_v163 : Ref sig .tc := ⟨.hbm, 483, rfl⟩
abbrev main_call1_call0_c_42 : Ref sig .tc := ⟨.hbm, 484, rfl⟩
abbrev main_call1_call0_v164 : Ref sig .tc := ⟨.hbm, 485, rfl⟩
abbrev main_call1_call0_v165 : Ref sig .tc := ⟨.hbm, 486, rfl⟩
abbrev main_call1_call0_c_43 : Ref sig .tc := ⟨.hbm, 487, rfl⟩
abbrev main_call1_call0_v166 : Ref sig .tc := ⟨.hbm, 488, rfl⟩
abbrev main_call1_call0_v167 : Ref sig .tc := ⟨.hbm, 489, rfl⟩
abbrev main_call1_call0_v168 : Ref sig .tc := ⟨.hbm, 490, rfl⟩
abbrev main_call1_call0_v169 : Ref sig .tc := ⟨.hbm, 491, rfl⟩
abbrev main_call1_call0_v170 : Ref sig .tc := ⟨.hbm, 492, rfl⟩
abbrev main_call1_v19_0 : Ref sig .tc := ⟨.hbm, 493, rfl⟩
abbrev main_call1_call0_v172 : Ref sig .tc := ⟨.hbm, 494, rfl⟩
abbrev main_call1_call0_v173 : Ref sig .tc := ⟨.hbm, 495, rfl⟩
abbrev main_call1_call0_c_44 : Ref sig .tc := ⟨.hbm, 496, rfl⟩
abbrev main_call1_call0_v174 : Ref sig .tc := ⟨.hbm, 497, rfl⟩
abbrev main_call1_v19_1 : Ref sig .tc := ⟨.hbm, 498, rfl⟩
abbrev main_call1_v20 : Ref sig .tc := ⟨.hbm, 499, rfl⟩
abbrev main_call1_c_2 : Ref sig .tc := ⟨.hbm, 500, rfl⟩
abbrev main_call1_v21 : Ref sig .tc := ⟨.hbm, 501, rfl⟩
abbrev main_call1_v22 : Ref sig .tc := ⟨.hbm, 502, rfl⟩
abbrev main_call1_c_3 : Ref sig .tc := ⟨.hbm, 503, rfl⟩
abbrev main_call1_v23 : Ref sig .tc := ⟨.hbm, 504, rfl⟩
abbrev main_call1_v24 : Ref sig .tc := ⟨.hbm, 505, rfl⟩
abbrev main_call1_v25 : Ref sig .tc := ⟨.hbm, 506, rfl⟩
abbrev main_call1_cst : Ref sig .tc := ⟨.hbm, 507, rfl⟩
abbrev main_call1_v26 : Ref sig .tc := ⟨.hbm, 508, rfl⟩
abbrev main_call1_v27 : Ref sig .tc := ⟨.hbm, 509, rfl⟩
abbrev main_call1_v28 : Ref sig .tc := ⟨.hbm, 510, rfl⟩
abbrev main_call1_v29 : Ref sig .tc := ⟨.hbm, 511, rfl⟩
abbrev main_call1_v30 : Ref sig .tc := ⟨.hbm, 512, rfl⟩
abbrev main_call1_v31 : Ref sig .tc := ⟨.hbm, 513, rfl⟩
abbrev main_call1_v32 : Ref sig .tc := ⟨.hbm, 514, rfl⟩
abbrev main_call1_v33 : Ref sig .tc := ⟨.hbm, 515, rfl⟩
abbrev main_v12 : Ref sig .tc := ⟨.hbm, 516, rfl⟩
abbrev main_cst_3 : Ref sig .tc := ⟨.hbm, 517, rfl⟩
abbrev main_v13 : Ref sig .tc := ⟨.hbm, 518, rfl⟩
abbrev main_v14 : Ref sig .tc := ⟨.hbm, 519, rfl⟩
abbrev main_cst_4 : Ref sig .tc := ⟨.hbm, 520, rfl⟩
abbrev main_cst_5 : Ref sig .tc := ⟨.hbm, 521, rfl⟩
abbrev main_call2_v0 : Ref sig .tc := ⟨.hbm, 522, rfl⟩
abbrev main_call2_v1 : Ref sig .tc := ⟨.hbm, 523, rfl⟩
abbrev main_call2_v2 : Ref sig .tc := ⟨.hbm, 524, rfl⟩
abbrev main_call2_v3 : Ref sig .tc := ⟨.hbm, 525, rfl⟩
abbrev main_call2_v4 : Ref sig .tc := ⟨.hbm, 526, rfl⟩
abbrev main_call2_v5 : Ref sig .tc := ⟨.hbm, 527, rfl⟩
abbrev main_call2_v6 : Ref sig .tc := ⟨.hbm, 528, rfl⟩
abbrev main_call2_v7 : Ref sig .tc := ⟨.hbm, 529, rfl⟩
abbrev main_call2_v8 : Ref sig .tc := ⟨.hbm, 530, rfl⟩
abbrev main_call2_v9 : Ref sig .tc := ⟨.hbm, 531, rfl⟩
abbrev main_call2_c : Ref sig .tc := ⟨.hbm, 532, rfl⟩
abbrev main_call2_v10 : Ref sig .tc := ⟨.hbm, 533, rfl⟩
abbrev main_call2_v11 : Ref sig .tc := ⟨.hbm, 534, rfl⟩
abbrev main_call2_c_0 : Ref sig .tc := ⟨.hbm, 535, rfl⟩
abbrev main_call2_v12 : Ref sig .tc := ⟨.hbm, 536, rfl⟩
abbrev main_call2_v13 : Ref sig .tc := ⟨.hbm, 537, rfl⟩
abbrev main_call2_v14 : Ref sig .tc := ⟨.hbm, 538, rfl⟩
abbrev main_call2_c_1 : Ref sig .tc := ⟨.hbm, 539, rfl⟩
abbrev main_call2_v15 : Ref sig .tc := ⟨.hbm, 540, rfl⟩
abbrev main_call2_v16 : Ref sig .tc := ⟨.hbm, 541, rfl⟩
abbrev main_call2_v17 : Ref sig .tc := ⟨.hbm, 542, rfl⟩
abbrev main_call2_v18 : Ref sig .tc := ⟨.hbm, 543, rfl⟩
abbrev main_call2_call0_v0 : Ref sig .tc := ⟨.hbm, 544, rfl⟩
abbrev main_call2_call0_c : Ref sig .tc := ⟨.hbm, 545, rfl⟩
abbrev main_call2_call0_v1 : Ref sig .tc := ⟨.hbm, 546, rfl⟩
abbrev main_call2_call0_v2 : Ref sig .tc := ⟨.hbm, 547, rfl⟩
abbrev main_call2_call0_v3 : Ref sig .tc := ⟨.hbm, 548, rfl⟩
abbrev main_call2_call0_v4 : Ref sig .tc := ⟨.hbm, 549, rfl⟩
abbrev main_call2_call0_v5 : Ref sig .tc := ⟨.hbm, 550, rfl⟩
abbrev main_call2_call0_v6 : Ref sig .tc := ⟨.hbm, 551, rfl⟩
abbrev main_call2_call0_c_0 : Ref sig .tc := ⟨.hbm, 552, rfl⟩
abbrev main_call2_call0_v7 : Ref sig .tc := ⟨.hbm, 553, rfl⟩
abbrev main_call2_call0_v8 : Ref sig .tc := ⟨.hbm, 554, rfl⟩
abbrev main_call2_call0_c_1 : Ref sig .tc := ⟨.hbm, 555, rfl⟩
abbrev main_call2_call0_v9 : Ref sig .tc := ⟨.hbm, 556, rfl⟩
abbrev main_call2_call0_v10 : Ref sig .tc := ⟨.hbm, 557, rfl⟩
abbrev main_call2_call0_v11 : Ref sig .tc := ⟨.hbm, 558, rfl⟩
abbrev main_call2_call0_v12 : Ref sig .tc := ⟨.hbm, 559, rfl⟩
abbrev main_call2_call0_v13 : Ref sig .tc := ⟨.hbm, 560, rfl⟩
abbrev main_call2_call0_c_2 : Ref sig .tc := ⟨.hbm, 561, rfl⟩
abbrev main_call2_call0_v14 : Ref sig .tc := ⟨.hbm, 562, rfl⟩
abbrev main_call2_call0_v15 : Ref sig .tc := ⟨.hbm, 563, rfl⟩
abbrev main_call2_call0_c_3 : Ref sig .tc := ⟨.hbm, 564, rfl⟩
abbrev main_call2_call0_v16 : Ref sig .tc := ⟨.hbm, 565, rfl⟩
abbrev main_call2_call0_v17 : Ref sig .tc := ⟨.hbm, 566, rfl⟩
abbrev main_call2_call0_v18 : Ref sig .tc := ⟨.hbm, 567, rfl⟩
abbrev main_call2_call0_v19 : Ref sig .tc := ⟨.hbm, 568, rfl⟩
abbrev main_call2_call0_v20 : Ref sig .tc := ⟨.hbm, 569, rfl⟩
abbrev main_call2_call0_c_4 : Ref sig .tc := ⟨.hbm, 570, rfl⟩
abbrev main_call2_call0_v21 : Ref sig .tc := ⟨.hbm, 571, rfl⟩
abbrev main_call2_call0_v22 : Ref sig .tc := ⟨.hbm, 572, rfl⟩
abbrev main_call2_call0_c_5 : Ref sig .tc := ⟨.hbm, 573, rfl⟩
abbrev main_call2_call0_v23 : Ref sig .tc := ⟨.hbm, 574, rfl⟩
abbrev main_call2_call0_v24 : Ref sig .tc := ⟨.hbm, 575, rfl⟩
abbrev main_call2_call0_v25 : Ref sig .tc := ⟨.hbm, 576, rfl⟩
abbrev main_call2_call0_v26 : Ref sig .tc := ⟨.hbm, 577, rfl⟩
abbrev main_call2_call0_v27 : Ref sig .tc := ⟨.hbm, 578, rfl⟩
abbrev main_call2_call0_c_6 : Ref sig .tc := ⟨.hbm, 579, rfl⟩
abbrev main_call2_call0_v28 : Ref sig .tc := ⟨.hbm, 580, rfl⟩
abbrev main_call2_call0_v29 : Ref sig .tc := ⟨.hbm, 581, rfl⟩
abbrev main_call2_call0_c_7 : Ref sig .tc := ⟨.hbm, 582, rfl⟩
abbrev main_call2_call0_v30 : Ref sig .tc := ⟨.hbm, 583, rfl⟩
abbrev main_call2_call0_v31 : Ref sig .tc := ⟨.hbm, 584, rfl⟩
abbrev main_call2_call0_v32 : Ref sig .tc := ⟨.hbm, 585, rfl⟩
abbrev main_call2_call0_v33 : Ref sig .tc := ⟨.hbm, 586, rfl⟩
abbrev main_call2_call0_v34 : Ref sig .tc := ⟨.hbm, 587, rfl⟩
abbrev main_call2_call0_v35 : Ref sig .tc := ⟨.hbm, 588, rfl⟩
abbrev main_call2_call0_v36 : Ref sig .tc := ⟨.hbm, 589, rfl⟩
abbrev main_call2_call0_v37 : Ref sig .tc := ⟨.hbm, 590, rfl⟩
abbrev main_call2_call0_c_8 : Ref sig .tc := ⟨.hbm, 591, rfl⟩
abbrev main_call2_call0_v38 : Ref sig .tc := ⟨.hbm, 592, rfl⟩
abbrev main_call2_call0_v39 : Ref sig .tc := ⟨.hbm, 593, rfl⟩
abbrev main_call2_call0_v40 : Ref sig .tc := ⟨.hbm, 594, rfl⟩
abbrev main_call2_call0_c_9 : Ref sig .tc := ⟨.hbm, 595, rfl⟩
abbrev main_call2_call0_v41 : Ref sig .tc := ⟨.hbm, 596, rfl⟩
abbrev main_call2_call0_v42 : Ref sig .tc := ⟨.hbm, 597, rfl⟩
abbrev main_call2_call0_c_10 : Ref sig .tc := ⟨.hbm, 598, rfl⟩
abbrev main_call2_call0_v43 : Ref sig .tc := ⟨.hbm, 599, rfl⟩
abbrev main_call2_call0_v44 : Ref sig .tc := ⟨.hbm, 600, rfl⟩
abbrev main_call2_call0_v45 : Ref sig .tc := ⟨.hbm, 601, rfl⟩
abbrev main_call2_call0_v46 : Ref sig .tc := ⟨.hbm, 602, rfl⟩
abbrev main_call2_call0_v47 : Ref sig .tc := ⟨.hbm, 603, rfl⟩
abbrev main_call2_call0_c_11 : Ref sig .tc := ⟨.hbm, 604, rfl⟩
abbrev main_call2_call0_v48 : Ref sig .tc := ⟨.hbm, 605, rfl⟩
abbrev main_call2_call0_v49 : Ref sig .tc := ⟨.hbm, 606, rfl⟩
abbrev main_call2_call0_c_12 : Ref sig .tc := ⟨.hbm, 607, rfl⟩
abbrev main_call2_call0_v50 : Ref sig .tc := ⟨.hbm, 608, rfl⟩
abbrev main_call2_call0_v51 : Ref sig .tc := ⟨.hbm, 609, rfl⟩
abbrev main_call2_call0_v52 : Ref sig .tc := ⟨.hbm, 610, rfl⟩
abbrev main_call2_call0_v53 : Ref sig .tc := ⟨.hbm, 611, rfl⟩
abbrev main_call2_call0_v54 : Ref sig .tc := ⟨.hbm, 612, rfl⟩
abbrev main_call2_call0_c_13 : Ref sig .tc := ⟨.hbm, 613, rfl⟩
abbrev main_call2_call0_v55 : Ref sig .tc := ⟨.hbm, 614, rfl⟩
abbrev main_call2_call0_v56 : Ref sig .tc := ⟨.hbm, 615, rfl⟩
abbrev main_call2_call0_c_14 : Ref sig .tc := ⟨.hbm, 616, rfl⟩
abbrev main_call2_call0_v57 : Ref sig .tc := ⟨.hbm, 617, rfl⟩
abbrev main_call2_call0_v58 : Ref sig .tc := ⟨.hbm, 618, rfl⟩
abbrev main_call2_call0_v59 : Ref sig .tc := ⟨.hbm, 619, rfl⟩
abbrev main_call2_call0_v60 : Ref sig .tc := ⟨.hbm, 620, rfl⟩
abbrev main_call2_call0_v61 : Ref sig .tc := ⟨.hbm, 621, rfl⟩
abbrev main_call2_call0_c_15 : Ref sig .tc := ⟨.hbm, 622, rfl⟩
abbrev main_call2_call0_v62 : Ref sig .tc := ⟨.hbm, 623, rfl⟩
abbrev main_call2_call0_v63 : Ref sig .tc := ⟨.hbm, 624, rfl⟩
abbrev main_call2_call0_c_16 : Ref sig .tc := ⟨.hbm, 625, rfl⟩
abbrev main_call2_call0_v64 : Ref sig .tc := ⟨.hbm, 626, rfl⟩
abbrev main_call2_call0_v65 : Ref sig .tc := ⟨.hbm, 627, rfl⟩
abbrev main_call2_call0_v66 : Ref sig .tc := ⟨.hbm, 628, rfl⟩
abbrev main_call2_call0_v67 : Ref sig .tc := ⟨.hbm, 629, rfl⟩
abbrev main_call2_call0_v68 : Ref sig .tc := ⟨.hbm, 630, rfl⟩
abbrev main_call2_call0_v69 : Ref sig .tc := ⟨.hbm, 631, rfl⟩
abbrev main_call2_call0_v70 : Ref sig .tc := ⟨.hbm, 632, rfl⟩
abbrev main_call2_call0_v71 : Ref sig .tc := ⟨.hbm, 633, rfl⟩
abbrev main_call2_call0_c_17 : Ref sig .tc := ⟨.hbm, 634, rfl⟩
abbrev main_call2_call0_v72 : Ref sig .tc := ⟨.hbm, 635, rfl⟩
abbrev main_call2_call0_v73 : Ref sig .tc := ⟨.hbm, 636, rfl⟩
abbrev main_call2_call0_v74 : Ref sig .tc := ⟨.hbm, 637, rfl⟩
abbrev main_call2_call0_c_18 : Ref sig .tc := ⟨.hbm, 638, rfl⟩
abbrev main_call2_call0_v75 : Ref sig .tc := ⟨.hbm, 639, rfl⟩
abbrev main_call2_call0_v76 : Ref sig .tc := ⟨.hbm, 640, rfl⟩
abbrev main_call2_call0_c_19 : Ref sig .tc := ⟨.hbm, 641, rfl⟩
abbrev main_call2_call0_v77 : Ref sig .tc := ⟨.hbm, 642, rfl⟩
abbrev main_call2_call0_v78 : Ref sig .tc := ⟨.hbm, 643, rfl⟩
abbrev main_call2_call0_v79 : Ref sig .tc := ⟨.hbm, 644, rfl⟩
abbrev main_call2_call0_v80 : Ref sig .tc := ⟨.hbm, 645, rfl⟩
abbrev main_call2_call0_v81 : Ref sig .tc := ⟨.hbm, 646, rfl⟩
abbrev main_call2_call0_c_20 : Ref sig .tc := ⟨.hbm, 647, rfl⟩
abbrev main_call2_call0_v82 : Ref sig .tc := ⟨.hbm, 648, rfl⟩
abbrev main_call2_call0_v83 : Ref sig .tc := ⟨.hbm, 649, rfl⟩
abbrev main_call2_call0_c_21 : Ref sig .tc := ⟨.hbm, 650, rfl⟩
abbrev main_call2_call0_v84 : Ref sig .tc := ⟨.hbm, 651, rfl⟩
abbrev main_call2_call0_v85 : Ref sig .tc := ⟨.hbm, 652, rfl⟩
abbrev main_call2_call0_v86 : Ref sig .tc := ⟨.hbm, 653, rfl⟩
abbrev main_call2_call0_v87 : Ref sig .tc := ⟨.hbm, 654, rfl⟩
abbrev main_call2_call0_v88 : Ref sig .tc := ⟨.hbm, 655, rfl⟩
abbrev main_call2_call0_c_22 : Ref sig .tc := ⟨.hbm, 656, rfl⟩
abbrev main_call2_call0_v89 : Ref sig .tc := ⟨.hbm, 657, rfl⟩
abbrev main_call2_call0_v90 : Ref sig .tc := ⟨.hbm, 658, rfl⟩
abbrev main_call2_call0_c_23 : Ref sig .tc := ⟨.hbm, 659, rfl⟩
abbrev main_call2_call0_v91 : Ref sig .tc := ⟨.hbm, 660, rfl⟩
abbrev main_call2_call0_v92 : Ref sig .tc := ⟨.hbm, 661, rfl⟩
abbrev main_call2_call0_v93 : Ref sig .tc := ⟨.hbm, 662, rfl⟩
abbrev main_call2_call0_v94 : Ref sig .tc := ⟨.hbm, 663, rfl⟩
abbrev main_call2_call0_v95 : Ref sig .tc := ⟨.hbm, 664, rfl⟩
abbrev main_call2_call0_c_24 : Ref sig .tc := ⟨.hbm, 665, rfl⟩
abbrev main_call2_call0_v96 : Ref sig .tc := ⟨.hbm, 666, rfl⟩
abbrev main_call2_call0_v97 : Ref sig .tc := ⟨.hbm, 667, rfl⟩
abbrev main_call2_call0_c_25 : Ref sig .tc := ⟨.hbm, 668, rfl⟩
abbrev main_call2_call0_v98 : Ref sig .tc := ⟨.hbm, 669, rfl⟩
abbrev main_call2_call0_v99 : Ref sig .tc := ⟨.hbm, 670, rfl⟩
abbrev main_call2_call0_v100 : Ref sig .tc := ⟨.hbm, 671, rfl⟩
abbrev main_call2_call0_v101 : Ref sig .tc := ⟨.hbm, 672, rfl⟩
abbrev main_call2_call0_v102 : Ref sig .tc := ⟨.hbm, 673, rfl⟩
abbrev main_call2_call0_v103 : Ref sig .tc := ⟨.hbm, 674, rfl⟩
abbrev main_call2_call0_v104 : Ref sig .tc := ⟨.hbm, 675, rfl⟩
abbrev main_call2_call0_v105 : Ref sig .tc := ⟨.hbm, 676, rfl⟩
abbrev main_call2_call0_c_26 : Ref sig .tc := ⟨.hbm, 677, rfl⟩
abbrev main_call2_call0_v106 : Ref sig .tc := ⟨.hbm, 678, rfl⟩
abbrev main_call2_call0_v107 : Ref sig .tc := ⟨.hbm, 679, rfl⟩
abbrev main_call2_call0_v108 : Ref sig .tc := ⟨.hbm, 680, rfl⟩
abbrev main_call2_call0_c_27 : Ref sig .tc := ⟨.hbm, 681, rfl⟩
abbrev main_call2_call0_v109 : Ref sig .tc := ⟨.hbm, 682, rfl⟩
abbrev main_call2_call0_v110 : Ref sig .tc := ⟨.hbm, 683, rfl⟩
abbrev main_call2_call0_c_28 : Ref sig .tc := ⟨.hbm, 684, rfl⟩
abbrev main_call2_call0_v111 : Ref sig .tc := ⟨.hbm, 685, rfl⟩
abbrev main_call2_call0_v112 : Ref sig .tc := ⟨.hbm, 686, rfl⟩
abbrev main_call2_call0_v113 : Ref sig .tc := ⟨.hbm, 687, rfl⟩
abbrev main_call2_call0_v114 : Ref sig .tc := ⟨.hbm, 688, rfl⟩
abbrev main_call2_call0_v115 : Ref sig .tc := ⟨.hbm, 689, rfl⟩
abbrev main_call2_call0_c_29 : Ref sig .tc := ⟨.hbm, 690, rfl⟩
abbrev main_call2_call0_v116 : Ref sig .tc := ⟨.hbm, 691, rfl⟩
abbrev main_call2_call0_v117 : Ref sig .tc := ⟨.hbm, 692, rfl⟩
abbrev main_call2_call0_c_30 : Ref sig .tc := ⟨.hbm, 693, rfl⟩
abbrev main_call2_call0_v118 : Ref sig .tc := ⟨.hbm, 694, rfl⟩
abbrev main_call2_call0_v119 : Ref sig .tc := ⟨.hbm, 695, rfl⟩
abbrev main_call2_call0_v120 : Ref sig .tc := ⟨.hbm, 696, rfl⟩
abbrev main_call2_call0_v121 : Ref sig .tc := ⟨.hbm, 697, rfl⟩
abbrev main_call2_call0_v122 : Ref sig .tc := ⟨.hbm, 698, rfl⟩
abbrev main_call2_call0_c_31 : Ref sig .tc := ⟨.hbm, 699, rfl⟩
abbrev main_call2_call0_v123 : Ref sig .tc := ⟨.hbm, 700, rfl⟩
abbrev main_call2_call0_v124 : Ref sig .tc := ⟨.hbm, 701, rfl⟩
abbrev main_call2_call0_c_32 : Ref sig .tc := ⟨.hbm, 702, rfl⟩
abbrev main_call2_call0_v125 : Ref sig .tc := ⟨.hbm, 703, rfl⟩
abbrev main_call2_call0_v126 : Ref sig .tc := ⟨.hbm, 704, rfl⟩
abbrev main_call2_call0_v127 : Ref sig .tc := ⟨.hbm, 705, rfl⟩
abbrev main_call2_call0_v128 : Ref sig .tc := ⟨.hbm, 706, rfl⟩
abbrev main_call2_call0_v129 : Ref sig .tc := ⟨.hbm, 707, rfl⟩
abbrev main_call2_call0_c_33 : Ref sig .tc := ⟨.hbm, 708, rfl⟩
abbrev main_call2_call0_v130 : Ref sig .tc := ⟨.hbm, 709, rfl⟩
abbrev main_call2_call0_v131 : Ref sig .tc := ⟨.hbm, 710, rfl⟩
abbrev main_call2_call0_c_34 : Ref sig .tc := ⟨.hbm, 711, rfl⟩
abbrev main_call2_call0_v132 : Ref sig .tc := ⟨.hbm, 712, rfl⟩
abbrev main_call2_call0_v133 : Ref sig .tc := ⟨.hbm, 713, rfl⟩
abbrev main_call2_call0_v134 : Ref sig .tc := ⟨.hbm, 714, rfl⟩
abbrev main_call2_call0_v135 : Ref sig .tc := ⟨.hbm, 715, rfl⟩
abbrev main_call2_call0_v136 : Ref sig .tc := ⟨.hbm, 716, rfl⟩
abbrev main_call2_call0_v137 : Ref sig .tc := ⟨.hbm, 717, rfl⟩
abbrev main_call2_call0_v138 : Ref sig .tc := ⟨.hbm, 718, rfl⟩
abbrev main_call2_call0_v139 : Ref sig .tc := ⟨.hbm, 719, rfl⟩
abbrev main_call2_call0_c_35 : Ref sig .tc := ⟨.hbm, 720, rfl⟩
abbrev main_call2_call0_v140 : Ref sig .tc := ⟨.hbm, 721, rfl⟩
abbrev main_call2_call0_v141 : Ref sig .tc := ⟨.hbm, 722, rfl⟩
abbrev main_call2_call0_v142 : Ref sig .tc := ⟨.hbm, 723, rfl⟩
abbrev main_call2_call0_c_36 : Ref sig .tc := ⟨.hbm, 724, rfl⟩
abbrev main_call2_call0_v143 : Ref sig .tc := ⟨.hbm, 725, rfl⟩
abbrev main_call2_call0_v144 : Ref sig .tc := ⟨.hbm, 726, rfl⟩
abbrev main_call2_call0_c_37 : Ref sig .tc := ⟨.hbm, 727, rfl⟩
abbrev main_call2_call0_v145 : Ref sig .tc := ⟨.hbm, 728, rfl⟩
abbrev main_call2_call0_v146 : Ref sig .tc := ⟨.hbm, 729, rfl⟩
abbrev main_call2_call0_v147 : Ref sig .tc := ⟨.hbm, 730, rfl⟩
abbrev main_call2_call0_v148 : Ref sig .tc := ⟨.hbm, 731, rfl⟩
abbrev main_call2_call0_v149 : Ref sig .tc := ⟨.hbm, 732, rfl⟩
abbrev main_call2_call0_c_38 : Ref sig .tc := ⟨.hbm, 733, rfl⟩
abbrev main_call2_call0_v150 : Ref sig .tc := ⟨.hbm, 734, rfl⟩
abbrev main_call2_call0_v151 : Ref sig .tc := ⟨.hbm, 735, rfl⟩
abbrev main_call2_call0_c_39 : Ref sig .tc := ⟨.hbm, 736, rfl⟩
abbrev main_call2_call0_v152 : Ref sig .tc := ⟨.hbm, 737, rfl⟩
abbrev main_call2_call0_v153 : Ref sig .tc := ⟨.hbm, 738, rfl⟩
abbrev main_call2_call0_v154 : Ref sig .tc := ⟨.hbm, 739, rfl⟩
abbrev main_call2_call0_v155 : Ref sig .tc := ⟨.hbm, 740, rfl⟩
abbrev main_call2_call0_v156 : Ref sig .tc := ⟨.hbm, 741, rfl⟩
abbrev main_call2_call0_c_40 : Ref sig .tc := ⟨.hbm, 742, rfl⟩
abbrev main_call2_call0_v157 : Ref sig .tc := ⟨.hbm, 743, rfl⟩
abbrev main_call2_call0_v158 : Ref sig .tc := ⟨.hbm, 744, rfl⟩
abbrev main_call2_call0_c_41 : Ref sig .tc := ⟨.hbm, 745, rfl⟩
abbrev main_call2_call0_v159 : Ref sig .tc := ⟨.hbm, 746, rfl⟩
abbrev main_call2_call0_v160 : Ref sig .tc := ⟨.hbm, 747, rfl⟩
abbrev main_call2_call0_v161 : Ref sig .tc := ⟨.hbm, 748, rfl⟩
abbrev main_call2_call0_v162 : Ref sig .tc := ⟨.hbm, 749, rfl⟩
abbrev main_call2_call0_v163 : Ref sig .tc := ⟨.hbm, 750, rfl⟩
abbrev main_call2_call0_c_42 : Ref sig .tc := ⟨.hbm, 751, rfl⟩
abbrev main_call2_call0_v164 : Ref sig .tc := ⟨.hbm, 752, rfl⟩
abbrev main_call2_call0_v165 : Ref sig .tc := ⟨.hbm, 753, rfl⟩
abbrev main_call2_call0_c_43 : Ref sig .tc := ⟨.hbm, 754, rfl⟩
abbrev main_call2_call0_v166 : Ref sig .tc := ⟨.hbm, 755, rfl⟩
abbrev main_call2_call0_v167 : Ref sig .tc := ⟨.hbm, 756, rfl⟩
abbrev main_call2_call0_v168 : Ref sig .tc := ⟨.hbm, 757, rfl⟩
abbrev main_call2_call0_v169 : Ref sig .tc := ⟨.hbm, 758, rfl⟩
abbrev main_call2_call0_v170 : Ref sig .tc := ⟨.hbm, 759, rfl⟩
abbrev main_call2_v19_0 : Ref sig .tc := ⟨.hbm, 760, rfl⟩
abbrev main_call2_call0_v172 : Ref sig .tc := ⟨.hbm, 761, rfl⟩
abbrev main_call2_call0_v173 : Ref sig .tc := ⟨.hbm, 762, rfl⟩
abbrev main_call2_call0_c_44 : Ref sig .tc := ⟨.hbm, 763, rfl⟩
abbrev main_call2_call0_v174 : Ref sig .tc := ⟨.hbm, 764, rfl⟩
abbrev main_call2_v19_1 : Ref sig .tc := ⟨.hbm, 765, rfl⟩
abbrev main_call2_v20 : Ref sig .tc := ⟨.hbm, 766, rfl⟩
abbrev main_call2_c_2 : Ref sig .tc := ⟨.hbm, 767, rfl⟩
abbrev main_call2_v21 : Ref sig .tc := ⟨.hbm, 768, rfl⟩
abbrev main_call2_v22 : Ref sig .tc := ⟨.hbm, 769, rfl⟩
abbrev main_call2_c_3 : Ref sig .tc := ⟨.hbm, 770, rfl⟩
abbrev main_call2_v23 : Ref sig .tc := ⟨.hbm, 771, rfl⟩
abbrev main_call2_v24 : Ref sig .tc := ⟨.hbm, 772, rfl⟩
abbrev main_call2_v25 : Ref sig .tc := ⟨.hbm, 773, rfl⟩
abbrev main_call2_cst : Ref sig .tc := ⟨.hbm, 774, rfl⟩
abbrev main_call2_v26 : Ref sig .tc := ⟨.hbm, 775, rfl⟩
abbrev main_call2_v27 : Ref sig .tc := ⟨.hbm, 776, rfl⟩
abbrev main_call2_v28 : Ref sig .tc := ⟨.hbm, 777, rfl⟩
abbrev main_call2_v29 : Ref sig .tc := ⟨.hbm, 778, rfl⟩
abbrev main_call2_v30 : Ref sig .tc := ⟨.hbm, 779, rfl⟩
abbrev main_call2_v31 : Ref sig .tc := ⟨.hbm, 780, rfl⟩
abbrev main_call2_v32 : Ref sig .tc := ⟨.hbm, 781, rfl⟩
abbrev main_call2_v33 : Ref sig .tc := ⟨.hbm, 782, rfl⟩
abbrev main_v15 : Ref sig .tc := ⟨.hbm, 783, rfl⟩
abbrev main_cst_6 : Ref sig .tc := ⟨.hbm, 784, rfl⟩
abbrev main_v16 : Ref sig .tc := ⟨.hbm, 785, rfl⟩
abbrev main_v17 : Ref sig .tc := ⟨.hbm, 786, rfl⟩
abbrev main_v18 : Ref sig .tc := ⟨.hbm, 787, rfl⟩
abbrev main_v19 : Ref sig .tc := ⟨.hbm, 788, rfl⟩
abbrev main_v20 : Ref sig .tc := ⟨.hbm, 789, rfl⟩
abbrev main_c_7 : Ref sig .tc := ⟨.hbm, 790, rfl⟩
abbrev main_v21 : Ref sig .tc := ⟨.hbm, 791, rfl⟩
abbrev main_v22 : Ref sig .tc := ⟨.hbm, 792, rfl⟩
abbrev main_v23 : Ref sig .tc := ⟨.hbm, 793, rfl⟩
abbrev main_v24 : Ref sig .tc := ⟨.hbm, 794, rfl⟩
abbrev main_v25 : Ref sig .tc := ⟨.hbm, 795, rfl⟩
abbrev main_v26 : Ref sig .tc := ⟨.hbm, 796, rfl⟩
abbrev main_c_8 : Ref sig .tc := ⟨.hbm, 797, rfl⟩
abbrev main_v27 : Ref sig .tc := ⟨.hbm, 798, rfl⟩
abbrev main_v28 : Ref sig .tc := ⟨.hbm, 799, rfl⟩
abbrev main_c_9 : Ref sig .tc := ⟨.hbm, 800, rfl⟩
abbrev main_v29 : Ref sig .tc := ⟨.hbm, 801, rfl⟩
abbrev main_v30 : Ref sig .tc := ⟨.hbm, 802, rfl⟩
abbrev main_v31 : Ref sig .tc := ⟨.hbm, 803, rfl⟩
abbrev main_v32 : Ref sig .tc := ⟨.hbm, 804, rfl⟩
abbrev main_v33 : Ref sig .tc := ⟨.hbm, 805, rfl⟩
abbrev main_v34 : Ref sig .tc := ⟨.hbm, 806, rfl⟩
abbrev main_v32_scv : Ref sig .scVector := ⟨.hbm, 804, rfl⟩
abbrev main_v31_scv : Ref sig .scVector := ⟨.hbm, 803, rfl⟩
abbrev main_v33_scv : Ref sig .scVector := ⟨.hbm, 805, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c51200_i32 : BitVec 32 := 51200#32
  let v2 : BitVec 32 := Scalar.muli v1 c51200_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x100 : Shape := ⟨2, ![16384, 100]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S1638400 : Shape := ⟨1, ![1638400]⟩
abbrev S1638400x1 : Shape := ⟨2, ![1638400, 1]⟩

abbrev nBuf : Space → Nat
  | .hbm => 815
  | .vmem => 0
  | .smem => 0
  | _ => 0

abbrev hbmTy0_0 (i : Nat) : BufTy := match i % 128 with
  | 0 => ⟨S16384x100, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16384x100, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .f32⟩
  | 126 => ⟨S_, .f32⟩
  | 127 => ⟨S_, .f32⟩
  | _ => ⟨S16384x100, .f32⟩

abbrev hbmTy0_2 (i : Nat) : BufTy := match i % 128 with
  | 0 => ⟨S_, .f32⟩
  | 1 => ⟨S1x1, .f32⟩
  | 2 => ⟨S1x1, .f32⟩
  | 3 => ⟨S1, .i32⟩
  | 4 => ⟨S_, .i32⟩
  | 5 => ⟨S1, .i32⟩
  | 6 => ⟨S_, .i32⟩
  | 7 => ⟨S16384x100, .i64⟩
  | 8 => ⟨S16384x100, .i64⟩
  | 9 => ⟨S_, .i64⟩
  | 10 => ⟨S16384x100, .i64⟩
  | 11 => ⟨S16384x100, .i64⟩
  | 12 => ⟨S_, .i64⟩
  | 13 => ⟨S16384x100, .i64⟩
  | 14 => ⟨S16384x100, .i64⟩
  | 15 => ⟨S16384x100, .i64⟩
  | 16 => ⟨S_, .i64⟩
  | 17 => ⟨S16384x100, .i64⟩
  | 18 => ⟨S16384x100, .i64⟩
  | 19 => ⟨S16384x100, .i32⟩
  | 20 => ⟨S16384x100, .i32⟩
  | 21 => ⟨S_, .i32⟩
  | 22 => ⟨S_, .i32⟩
  | 23 => ⟨S_, .i32⟩
  | 24 => ⟨S16384x100, .i32⟩
  | 25 => ⟨S16384x100, .i32⟩
  | 26 => ⟨S16384x100, .i32⟩
  | 27 => ⟨S16384x100, .i32⟩
  | 28 => ⟨S16384x100, .i32⟩
  | 29 => ⟨S_, .i32⟩
  | 30 => ⟨S16384x100, .i32⟩
  | 31 => ⟨S16384x100, .i32⟩
  | 32 => ⟨S_, .i32⟩
  | 33 => ⟨S16384x100, .i32⟩
  | 34 => ⟨S16384x100, .i32⟩
  | 35 => ⟨S16384x100, .i32⟩
  | 36 => ⟨S16384x100, .i32⟩
  | 37 => ⟨S16384x100, .i32⟩
  | 38 => ⟨S_, .i32⟩
  | 39 => ⟨S16384x100, .i32⟩
  | 40 => ⟨S16384x100, .i32⟩
  | 41 => ⟨S_, .i32⟩
  | 42 => ⟨S16384x100, .i32⟩
  | 43 => ⟨S16384x100, .i32⟩
  | 44 => ⟨S16384x100, .i32⟩
  | 45 => ⟨S16384x100, .i32⟩
  | 46 => ⟨S16384x100, .i32⟩
  | 47 => ⟨S_, .i32⟩
  | 48 => ⟨S16384x100, .i32⟩
  | 49 => ⟨S16384x100, .i32⟩
  | 50 => ⟨S_, .i32⟩
  | 51 => ⟨S16384x100, .i32⟩
  | 52 => ⟨S16384x100, .i32⟩
  | 53 => ⟨S16384x100, .i32⟩
  | 54 => ⟨S16384x100, .i32⟩
  | 55 => ⟨S16384x100, .i32⟩
  | 56 => ⟨S_, .i32⟩
  | 57 => ⟨S16384x100, .i32⟩
  | 58 => ⟨S16384x100, .i32⟩
  | 59 => ⟨S_, .i32⟩
  | 60 => ⟨S16384x100, .i32⟩
  | 61 => ⟨S16384x100, .i32⟩
  | 62 => ⟨S16384x100, .i32⟩
  | 63 => ⟨S16384x100, .i32⟩
  | 64 => ⟨S16384x100, .i32⟩
  | 65 => ⟨S16384x100, .i32⟩
  | 66 => ⟨S16384x100, .i32⟩
  | 67 => ⟨S16384x100, .i32⟩
  | 68 => ⟨S_, .i32⟩
  | 69 => ⟨S16384x100, .i32⟩
  | 70 => ⟨S16384x100, .i32⟩
  | 71 => ⟨S16384x100, .i32⟩
  | 72 => ⟨S_, .i32⟩
  | 73 => ⟨S16384x100, .i32⟩
  | 74 => ⟨S16384x100, .i32⟩
  | 75 => ⟨S_, .i32⟩
  | 76 => ⟨S16384x100, .i32⟩
  | 77 => ⟨S16384x100, .i32⟩
  | 78 => ⟨S16384x100, .i32⟩
  | 79 => ⟨S16384x100, .i32⟩
  | 80 => ⟨S16384x100, .i32⟩
  | 81 => ⟨S_, .i32⟩
  | 82 => ⟨S16384x100, .i32⟩
  | 83 => ⟨S16384x100, .i32⟩
  | 84 => ⟨S_, .i32⟩
  | 85 => ⟨S16384x100, .i32⟩
  | 86 => ⟨S16384x100, .i32⟩
  | 87 => ⟨S16384x100, .i32⟩
  | 88 => ⟨S16384x100, .i32⟩
  | 89 => ⟨S16384x100, .i32⟩
  | 90 => ⟨S_, .i32⟩
  | 91 => ⟨S16384x100, .i32⟩
  | 92 => ⟨S16384x100, .i32⟩
  | 93 => ⟨S_, .i32⟩
  | 94 => ⟨S16384x100, .i32⟩
  | 95 => ⟨S16384x100, .i32⟩
  | 96 => ⟨S16384x100, .i32⟩
  | 97 => ⟨S16384x100, .i32⟩
  | 98 => ⟨S16384x100, .i32⟩
  | 99 => ⟨S_, .i32⟩
  | 100 => ⟨S16384x100, .i32⟩
  | 101 => ⟨S16384x100, .i32⟩
  | 102 => ⟨S_, .i32⟩
  | 103 => ⟨S16384x100, .i32⟩
  | 104 => ⟨S16384x100, .i32⟩
  | 105 => ⟨S16384x100, .i32⟩
  | 106 => ⟨S16384x100, .i32⟩
  | 107 => ⟨S16384x100, .i32⟩
  | 108 => ⟨S16384x100, .i32⟩
  | 109 => ⟨S16384x100, .i32⟩
  | 110 => ⟨S16384x100, .i32⟩
  | 111 => ⟨S_, .i32⟩
  | 112 => ⟨S16384x100, .i32⟩
  | 113 => ⟨S16384x100, .i32⟩
  | 114 => ⟨S16384x100, .i32⟩
  | 115 => ⟨S_, .i32⟩
  | 116 => ⟨S16384x100, .i32⟩
  | 117 => ⟨S16384x100, .i32⟩
  | 118 => ⟨S_, .i32⟩
  | 119 => ⟨S16384x100, .i32⟩
  | 120 => ⟨S16384x100, .i32⟩
  | 121 => ⟨S16384x100, .i32⟩
  | 122 => ⟨S16384x100, .i32⟩
  | 123 => ⟨S16384x100, .i32⟩
  | 124 => ⟨S_, .i32⟩
  | 125 => ⟨S16384x100, .i32⟩
  | 126 => ⟨S16384x100, .i32⟩
  | 127 => ⟨S_, .i32⟩
  | _ => ⟨S16384x100, .f32⟩

abbrev hbmTy0_3 (i : Nat) : BufTy := match i % 128 with
  | 0 => ⟨S16384x100, .i32⟩
  | 1 => ⟨S16384x100, .i32⟩
  | 2 => ⟨S16384x100, .i32⟩
  | 3 => ⟨S16384x100, .i32⟩
  | 4 => ⟨S16384x100, .i32⟩
  | 5 => ⟨S_, .i32⟩
  | 6 => ⟨S16384x100, .i32⟩
  | 7 => ⟨S16384x100, .i32⟩
  | 8 => ⟨S_, .i32⟩
  | 9 => ⟨S16384x100, .i32⟩
  | 10 => ⟨S16384x100, .i32⟩
  | 11 => ⟨S16384x100, .i32⟩
  | 12 => ⟨S16384x100, .i32⟩
  | 13 => ⟨S16384x100, .i32⟩
  | 14 => ⟨S_, .i32⟩
  | 15 => ⟨S16384x100, .i32⟩
  | 16 => ⟨S16384x100, .i32⟩
  | 17 => ⟨S_, .i32⟩
  | 18 => ⟨S16384x100, .i32⟩
  | 19 => ⟨S16384x100, .i32⟩
  | 20 => ⟨S16384x100, .i32⟩
  | 21 => ⟨S16384x100, .i32⟩
  | 22 => ⟨S16384x100, .i32⟩
  | 23 => ⟨S16384x100, .i32⟩
  | 24 => ⟨S16384x100, .i32⟩
  | 25 => ⟨S16384x100, .i32⟩
  | 26 => ⟨S_, .i32⟩
  | 27 => ⟨S16384x100, .i32⟩
  | 28 => ⟨S16384x100, .i32⟩
  | 29 => ⟨S16384x100, .i32⟩
  | 30 => ⟨S_, .i32⟩
  | 31 => ⟨S16384x100, .i32⟩
  | 32 => ⟨S16384x100, .i32⟩
  | 33 => ⟨S_, .i32⟩
  | 34 => ⟨S16384x100, .i32⟩
  | 35 => ⟨S16384x100, .i32⟩
  | 36 => ⟨S16384x100, .i32⟩
  | 37 => ⟨S16384x100, .i32⟩
  | 38 => ⟨S16384x100, .i32⟩
  | 39 => ⟨S_, .i32⟩
  | 40 => ⟨S16384x100, .i32⟩
  | 41 => ⟨S16384x100, .i32⟩
  | 42 => ⟨S_, .i32⟩
  | 43 => ⟨S16384x100, .i32⟩
  | 44 => ⟨S16384x100, .i32⟩
  | 45 => ⟨S16384x100, .i32⟩
  | 46 => ⟨S16384x100, .i32⟩
  | 47 => ⟨S16384x100, .i32⟩
  | 48 => ⟨S_, .i32⟩
  | 49 => ⟨S16384x100, .i32⟩
  | 50 => ⟨S16384x100, .i32⟩
  | 51 => ⟨S_, .i32⟩
  | 52 => ⟨S16384x100, .i32⟩
  | 53 => ⟨S16384x100, .i32⟩
  | 54 => ⟨S16384x100, .i32⟩
  | 55 => ⟨S16384x100, .i32⟩
  | 56 => ⟨S16384x100, .i32⟩
  | 57 => ⟨S_, .i32⟩
  | 58 => ⟨S16384x100, .i32⟩
  | 59 => ⟨S16384x100, .i32⟩
  | 60 => ⟨S_, .i32⟩
  | 61 => ⟨S16384x100, .i32⟩
  | 62 => ⟨S16384x100, .i32⟩
  | 63 => ⟨S16384x100, .i32⟩
  | 64 => ⟨S16384x100, .i32⟩
  | 65 => ⟨S16384x100, .i32⟩
  | 66 => ⟨S16384x100, .i32⟩
  | 67 => ⟨S16384x100, .i32⟩
  | 68 => ⟨S16384x100, .i32⟩
  | 69 => ⟨S_, .i32⟩
  | 70 => ⟨S16384x100, .i32⟩
  | 71 => ⟨S16384x100, .i32⟩
  | 72 => ⟨S16384x100, .i32⟩
  | 73 => ⟨S_, .i32⟩
  | 74 => ⟨S16384x100, .i32⟩
  | 75 => ⟨S16384x100, .i32⟩
  | 76 => ⟨S_, .i32⟩
  | 77 => ⟨S16384x100, .i32⟩
  | 78 => ⟨S16384x100, .i32⟩
  | 79 => ⟨S16384x100, .i32⟩
  | 80 => ⟨S16384x100, .i32⟩
  | 81 => ⟨S16384x100, .i32⟩
  | 82 => ⟨S_, .i32⟩
  | 83 => ⟨S16384x100, .i32⟩
  | 84 => ⟨S16384x100, .i32⟩
  | 85 => ⟨S_, .i32⟩
  | 86 => ⟨S16384x100, .i32⟩
  | 87 => ⟨S16384x100, .i32⟩
  | 88 => ⟨S16384x100, .i32⟩
  | 89 => ⟨S16384x100, .i32⟩
  | 90 => ⟨S16384x100, .i32⟩
  | 91 => ⟨S_, .i32⟩
  | 92 => ⟨S16384x100, .i32⟩
  | 93 => ⟨S16384x100, .i32⟩
  | 94 => ⟨S_, .i32⟩
  | 95 => ⟨S16384x100, .i32⟩
  | 96 => ⟨S16384x100, .i32⟩
  | 97 => ⟨S16384x100, .i32⟩
  | 98 => ⟨S16384x100, .i32⟩
  | 99 => ⟨S16384x100, .i32⟩
  | 100 => ⟨S_, .i32⟩
  | 101 => ⟨S16384x100, .i32⟩
  | 102 => ⟨S16384x100, .i32⟩
  | 103 => ⟨S_, .i32⟩
  | 104 => ⟨S16384x100, .i32⟩
  | 105 => ⟨S16384x100, .i32⟩
  | 106 => ⟨S16384x100, .i32⟩
  | 107 => ⟨S16384x100, .i32⟩
  | 108 => ⟨S16384x100, .i32⟩
  | 109 => ⟨S16384x100, .i32⟩
  | 110 => ⟨S16384x100, .i32⟩
  | 111 => ⟨S16384x100, .i32⟩
  | 112 => ⟨S_, .i32⟩
  | 113 => ⟨S16384x100, .i32⟩
  | 114 => ⟨S16384x100, .i32⟩
  | 115 => ⟨S16384x100, .i32⟩
  | 116 => ⟨S_, .i32⟩
  | 117 => ⟨S16384x100, .i32⟩
  | 118 => ⟨S16384x100, .i32⟩
  | 119 => ⟨S_, .i32⟩
  | 120 => ⟨S16384x100, .i32⟩
  | 121 => ⟨S16384x100, .i32⟩
  | 122 => ⟨S16384x100, .f32⟩
  | 123 => ⟨S_, .f32⟩
  | 124 => ⟨S16384x100, .f32⟩
  | 125 => ⟨S16384x100, .f32⟩
  | 126 => ⟨S1x1, .f32⟩
  | 127 => ⟨S16384x100, .f32⟩
  | _ => ⟨S16384x100, .f32⟩

abbrev hbmTy0_4 (i : Nat) : BufTy := match i % 128 with
  | 0 => ⟨S16384x100, .f32⟩
  | 1 => ⟨S16384x100, .f32⟩
  | 2 => ⟨S16384x100, .f32⟩
  | 3 => ⟨S16384x100, .f32⟩
  | 4 => ⟨S16384x100, .f32⟩
  | 5 => ⟨S_, .f32⟩
  | 6 => ⟨S16384x100, .f32⟩
  | 7 => ⟨S16384x100, .i1⟩
  | 8 => ⟨S_, .f32⟩
  | 9 => ⟨S_, .f32⟩
  | 10 => ⟨S_, .f32⟩
  | 11 => ⟨S_, .f32⟩
  | 12 => ⟨S1x1, .f32⟩
  | 13 => ⟨S1x1, .f32⟩
  | 14 => ⟨S1, .i32⟩
  | 15 => ⟨S_, .i32⟩
  | 16 => ⟨S1, .i32⟩
  | 17 => ⟨S_, .i32⟩
  | 18 => ⟨S16384x100, .i64⟩
  | 19 => ⟨S16384x100, .i64⟩
  | 20 => ⟨S_, .i64⟩
  | 21 => ⟨S16384x100, .i64⟩
  | 22 => ⟨S16384x100, .i64⟩
  | 23 => ⟨S_, .i64⟩
  | 24 => ⟨S16384x100, .i64⟩
  | 25 => ⟨S16384x100, .i64⟩
  | 26 => ⟨S16384x100, .i64⟩
  | 27 => ⟨S_, .i64⟩
  | 28 => ⟨S16384x100, .i64⟩
  | 29 => ⟨S16384x100, .i64⟩
  | 30 => ⟨S16384x100, .i32⟩
  | 31 => ⟨S16384x100, .i32⟩
  | 32 => ⟨S_, .i32⟩
  | 33 => ⟨S_, .i32⟩
  | 34 => ⟨S_, .i32⟩
  | 35 => ⟨S16384x100, .i32⟩
  | 36 => ⟨S16384x100, .i32⟩
  | 37 => ⟨S16384x100, .i32⟩
  | 38 => ⟨S16384x100, .i32⟩
  | 39 => ⟨S16384x100, .i32⟩
  | 40 => ⟨S_, .i32⟩
  | 41 => ⟨S16384x100, .i32⟩
  | 42 => ⟨S16384x100, .i32⟩
  | 43 => ⟨S_, .i32⟩
  | 44 => ⟨S16384x100, .i32⟩
  | 45 => ⟨S16384x100, .i32⟩
  | 46 => ⟨S16384x100, .i32⟩
  | 47 => ⟨S16384x100, .i32⟩
  | 48 => ⟨S16384x100, .i32⟩
  | 49 => ⟨S_, .i32⟩
  | 50 => ⟨S16384x100, .i32⟩
  | 51 => ⟨S16384x100, .i32⟩
  | 52 => ⟨S_, .i32⟩
  | 53 => ⟨S16384x100, .i32⟩
  | 54 => ⟨S16384x100, .i32⟩
  | 55 => ⟨S16384x100, .i32⟩
  | 56 => ⟨S16384x100, .i32⟩
  | 57 => ⟨S16384x100, .i32⟩
  | 58 => ⟨S_, .i32⟩
  | 59 => ⟨S16384x100, .i32⟩
  | 60 => ⟨S16384x100, .i32⟩
  | 61 => ⟨S_, .i32⟩
  | 62 => ⟨S16384x100, .i32⟩
  | 63 => ⟨S16384x100, .i32⟩
  | 64 => ⟨S16384x100, .i32⟩
  | 65 => ⟨S16384x100, .i32⟩
  | 66 => ⟨S16384x100, .i32⟩
  | 67 => ⟨S_, .i32⟩
  | 68 => ⟨S16384x100, .i32⟩
  | 69 => ⟨S16384x100, .i32⟩
  | 70 => ⟨S_, .i32⟩
  | 71 => ⟨S16384x100, .i32⟩
  | 72 => ⟨S16384x100, .i32⟩
  | 73 => ⟨S16384x100, .i32⟩
  | 74 => ⟨S16384x100, .i32⟩
  | 75 => ⟨S16384x100, .i32⟩
  | 76 => ⟨S16384x100, .i32⟩
  | 77 => ⟨S16384x100, .i32⟩
  | 78 => ⟨S16384x100, .i32⟩
  | 79 => ⟨S_, .i32⟩
  | 80 => ⟨S16384x100, .i32⟩
  | 81 => ⟨S16384x100, .i32⟩
  | 82 => ⟨S16384x100, .i32⟩
  | 83 => ⟨S_, .i32⟩
  | 84 => ⟨S16384x100, .i32⟩
  | 85 => ⟨S16384x100, .i32⟩
  | 86 => ⟨S_, .i32⟩
  | 87 => ⟨S16384x100, .i32⟩
  | 88 => ⟨S16384x100, .i32⟩
  | 89 => ⟨S16384x100, .i32⟩
  | 90 => ⟨S16384x100, .i32⟩
  | 91 => ⟨S16384x100, .i32⟩
  | 92 => ⟨S_, .i32⟩
  | 93 => ⟨S16384x100, .i32⟩
  | 94 => ⟨S16384x100, .i32⟩
  | 95 => ⟨S_, .i32⟩
  | 96 => ⟨S16384x100, .i32⟩
  | 97 => ⟨S16384x100, .i32⟩
  | 98 => ⟨S16384x100, .i32⟩
  | 99 => ⟨S16384x100, .i32⟩
  | 100 => ⟨S16384x100, .i32⟩
  | 101 => ⟨S_, .i32⟩
  | 102 => ⟨S16384x100, .i32⟩
  | 103 => ⟨S16384x100, .i32⟩
  | 104 => ⟨S_, .i32⟩
  | 105 => ⟨S16384x100, .i32⟩
  | 106 => ⟨S16384x100, .i32⟩
  | 107 => ⟨S16384x100, .i32⟩
  | 108 => ⟨S16384x100, .i32⟩
  | 109 => ⟨S16384x100, .i32⟩
  | 110 => ⟨S_, .i32⟩
  | 111 => ⟨S16384x100, .i32⟩
  | 112 => ⟨S16384x100, .i32⟩
  | 113 => ⟨S_, .i32⟩
  | 114 => ⟨S16384x100, .i32⟩
  | 115 => ⟨S16384x100, .i32⟩
  | 116 => ⟨S16384x100, .i32⟩
  | 117 => ⟨S16384x100, .i32⟩
  | 118 => ⟨S16384x100, .i32⟩
  | 119 => ⟨S16384x100, .i32⟩
  | 120 => ⟨S16384x100, .i32⟩
  | 121 => ⟨S16384x100, .i32⟩
  | 122 => ⟨S_, .i32⟩
  | 123 => ⟨S16384x100, .i32⟩
  | 124 => ⟨S16384x100, .i32⟩
  | 125 => ⟨S16384x100, .i32⟩
  | 126 => ⟨S_, .i32⟩
  | 127 => ⟨S16384x100, .i32⟩
  | _ => ⟨S16384x100, .f32⟩

abbrev hbmTy0_5 (i : Nat) : BufTy := match i % 128 with
  | 0 => ⟨S16384x100, .i32⟩
  | 1 => ⟨S_, .i32⟩
  | 2 => ⟨S16384x100, .i32⟩
  | 3 => ⟨S16384x100, .i32⟩
  | 4 => ⟨S16384x100, .i32⟩
  | 5 => ⟨S16384x100, .i32⟩
  | 6 => ⟨S16384x100, .i32⟩
  | 7 => ⟨S_, .i32⟩
  | 8 => ⟨S16384x100, .i32⟩
  | 9 => ⟨S16384x100, .i32⟩
  | 10 => ⟨S_, .i32⟩
  | 11 => ⟨S16384x100, .i32⟩
  | 12 => ⟨S16384x100, .i32⟩
  | 13 => ⟨S16384x100, .i32⟩
  | 14 => ⟨S16384x100, .i32⟩
  | 15 => ⟨S16384x100, .i32⟩
  | 16 => ⟨S_, .i32⟩
  | 17 => ⟨S16384x100, .i32⟩
  | 18 => ⟨S16384x100, .i32⟩
  | 19 => ⟨S_, .i32⟩
  | 20 => ⟨S16384x100, .i32⟩
  | 21 => ⟨S16384x100, .i32⟩
  | 22 => ⟨S16384x100, .i32⟩
  | 23 => ⟨S16384x100, .i32⟩
  | 24 => ⟨S16384x100, .i32⟩
  | 25 => ⟨S_, .i32⟩
  | 26 => ⟨S16384x100, .i32⟩
  | 27 => ⟨S16384x100, .i32⟩
  | 28 => ⟨S_, .i32⟩
  | 29 => ⟨S16384x100, .i32⟩
  | 30 => ⟨S16384x100, .i32⟩
  | 31 => ⟨S16384x100, .i32⟩
  | 32 => ⟨S16384x100, .i32⟩
  | 33 => ⟨S16384x100, .i32⟩
  | 34 => ⟨S16384x100, .i32⟩
  | 35 => ⟨S16384x100, .i32⟩
  | 36 => ⟨S16384x100, .i32⟩
  | 37 => ⟨S_, .i32⟩
  | 38 => ⟨S16384x100, .i32⟩
  | 39 => ⟨S16384x100, .i32⟩
  | 40 => ⟨S16384x100, .i32⟩
  | 41 => ⟨S_, .i32⟩
  | 42 => ⟨S16384x100, .i32⟩
  | 43 => ⟨S16384x100, .i32⟩
  | 44 => ⟨S_, .i32⟩
  | 45 => ⟨S16384x100, .i32⟩
  | 46 => ⟨S16384x100, .i32⟩
  | 47 => ⟨S16384x100, .i32⟩
  | 48 => ⟨S16384x100, .i32⟩
  | 49 => ⟨S16384x100, .i32⟩
  | 50 => ⟨S_, .i32⟩
  | 51 => ⟨S16384x100, .i32⟩
  | 52 => ⟨S16384x100, .i32⟩
  | 53 => ⟨S_, .i32⟩
  | 54 => ⟨S16384x100, .i32⟩
  | 55 => ⟨S16384x100, .i32⟩
  | 56 => ⟨S16384x100, .i32⟩
  | 57 => ⟨S16384x100, .i32⟩
  | 58 => ⟨S16384x100, .i32⟩
  | 59 => ⟨S_, .i32⟩
  | 60 => ⟨S16384x100, .i32⟩
  | 61 => ⟨S16384x100, .i32⟩
  | 62 => ⟨S_, .i32⟩
  | 63 => ⟨S16384x100, .i32⟩
  | 64 => ⟨S16384x100, .i32⟩
  | 65 => ⟨S16384x100, .i32⟩
  | 66 => ⟨S16384x100, .i32⟩
  | 67 => ⟨S16384x100, .i32⟩
  | 68 => ⟨S_, .i32⟩
  | 69 => ⟨S16384x100, .i32⟩
  | 70 => ⟨S16384x100, .i32⟩
  | 71 => ⟨S_, .i32⟩
  | 72 => ⟨S16384x100, .i32⟩
  | 73 => ⟨S16384x100, .i32⟩
  | 74 => ⟨S16384x100, .i32⟩
  | 75 => ⟨S16384x100, .i32⟩
  | 76 => ⟨S16384x100, .i32⟩
  | 77 => ⟨S16384x100, .i32⟩
  | 78 => ⟨S16384x100, .i32⟩
  | 79 => ⟨S16384x100, .i32⟩
  | 80 => ⟨S_, .i32⟩
  | 81 => ⟨S16384x100, .i32⟩
  | 82 => ⟨S16384x100, .i32⟩
  | 83 => ⟨S16384x100, .i32⟩
  | 84 => ⟨S_, .i32⟩
  | 85 => ⟨S16384x100, .i32⟩
  | 86 => ⟨S16384x100, .i32⟩
  | 87 => ⟨S_, .i32⟩
  | 88 => ⟨S16384x100, .i32⟩
  | 89 => ⟨S16384x100, .i32⟩
  | 90 => ⟨S16384x100, .i32⟩
  | 91 => ⟨S16384x100, .i32⟩
  | 92 => ⟨S16384x100, .i32⟩
  | 93 => ⟨S_, .i32⟩
  | 94 => ⟨S16384x100, .i32⟩
  | 95 => ⟨S16384x100, .i32⟩
  | 96 => ⟨S_, .i32⟩
  | 97 => ⟨S16384x100, .i32⟩
  | 98 => ⟨S16384x100, .i32⟩
  | 99 => ⟨S16384x100, .i32⟩
  | 100 => ⟨S16384x100, .i32⟩
  | 101 => ⟨S16384x100, .i32⟩
  | 102 => ⟨S_, .i32⟩
  | 103 => ⟨S16384x100, .i32⟩
  | 104 => ⟨S16384x100, .i32⟩
  | 105 => ⟨S_, .i32⟩
  | 106 => ⟨S16384x100, .i32⟩
  | 107 => ⟨S16384x100, .i32⟩
  | 108 => ⟨S16384x100, .i32⟩
  | 109 => ⟨S16384x100, .i32⟩
  | 110 => ⟨S16384x100, .i32⟩
  | 111 => ⟨S_, .i32⟩
  | 112 => ⟨S16384x100, .i32⟩
  | 113 => ⟨S16384x100, .i32⟩
  | 114 => ⟨S_, .i32⟩
  | 115 => ⟨S16384x100, .i32⟩
  | 116 => ⟨S16384x100, .i32⟩
  | 117 => ⟨S16384x100, .i32⟩
  | 118 => ⟨S16384x100, .i32⟩
  | 119 => ⟨S16384x100, .i32⟩
  | 120 => ⟨S16384x100, .i32⟩
  | 121 => ⟨S16384x100, .i32⟩
  | 122 => ⟨S16384x100, .i32⟩
  | 123 => ⟨S_, .i32⟩
  | 124 => ⟨S16384x100, .i32⟩
  | 125 => ⟨S16384x100, .i32⟩
  | 126 => ⟨S16384x100, .i32⟩
  | 127 => ⟨S_, .i32⟩
  | _ => ⟨S16384x100, .f32⟩

abbrev hbmTy0_6 (i : Nat) : BufTy := match i % 128 with
  | 0 => ⟨S16384x100, .i32⟩
  | 1 => ⟨S16384x100, .i32⟩
  | 2 => ⟨S_, .i32⟩
  | 3 => ⟨S16384x100, .i32⟩
  | 4 => ⟨S16384x100, .i32⟩
  | 5 => ⟨S16384x100, .f32⟩
  | 6 => ⟨S_, .f32⟩
  | 7 => ⟨S16384x100, .f32⟩
  | 8 => ⟨S16384x100, .f32⟩
  | 9 => ⟨S1x1, .f32⟩
  | 10 => ⟨S16384x100, .f32⟩
  | 11 => ⟨S16384x100, .f32⟩
  | 12 => ⟨S16384x100, .f32⟩
  | 13 => ⟨S16384x100, .f32⟩
  | 14 => ⟨S16384x100, .f32⟩
  | 15 => ⟨S16384x100, .f32⟩
  | 16 => ⟨S_, .f32⟩
  | 17 => ⟨S16384x100, .f32⟩
  | 18 => ⟨S16384x100, .f32⟩
  | 19 => ⟨S16384x100, .f32⟩
  | 20 => ⟨S16384x100, .i32⟩
  | 21 => ⟨S16384x100, .i32⟩
  | 22 => ⟨S_, .i32⟩
  | 23 => ⟨S16384x100, .i32⟩
  | 24 => ⟨S16384x100, .i32⟩
  | 25 => ⟨S16384x100, .i32⟩
  | 26 => ⟨S1638400, .i32⟩
  | 27 => ⟨S1638400, .i32⟩
  | 28 => ⟨S1638400, .i32⟩
  | 29 => ⟨S_, .i32⟩
  | 30 => ⟨S1638400, .i32⟩
  | 31 => ⟨S1638400, .i1⟩
  | 32 => ⟨S_, .i32⟩
  | 33 => ⟨S1638400, .i32⟩
  | 34 => ⟨S1638400, .i32⟩
  | 35 => ⟨S1638400, .i32⟩
  | 36 => ⟨S1638400, .f32⟩
  | 37 => ⟨S_, .i32⟩
  | 38 => ⟨S1638400, .i32⟩
  | 39 => ⟨S1638400, .i1⟩
  | 40 => ⟨S_, .i32⟩
  | 41 => ⟨S1638400, .i32⟩
  | 42 => ⟨S1638400, .i32⟩
  | 43 => ⟨S1638400, .i32⟩
  | 44 => ⟨S1638400x1, .i32⟩
  | 45 => ⟨S1638400, .f32⟩
  | 46 => ⟨S16384x100, .f32⟩
  | _ => ⟨S16384x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x100, .f32⟩

abbrev bufTy : (tb : Table) → Fin (tcTables nBuf tb) → BufTy
  | .hbm, ⟨i, _⟩ => hbmTy i
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_cst : Ref sig .tc := ⟨.hbm, 253, rfl⟩
abbrev main_cst_2 : Ref sig .tc := ⟨.hbm, 254, rfl⟩
abbrev main_call1_v0 : Ref sig .tc := ⟨.hbm, 255, rfl⟩
abbrev main_call1_v1 : Ref sig .tc := ⟨.hbm, 256, rfl⟩
abbrev main_call1_v2 : Ref sig .tc := ⟨.hbm, 257, rfl⟩
abbrev main_call1_v3 : Ref sig .tc := ⟨.hbm, 258, rfl⟩
abbrev main_call1_v4 : Ref sig .tc := ⟨.hbm, 259, rfl⟩
abbrev main_call1_v5 : Ref sig .tc := ⟨.hbm, 260, rfl⟩
abbrev main_call1_v6 : Ref sig .tc := ⟨.hbm, 261, rfl⟩
abbrev main_call1_v7 : Ref sig .tc := ⟨.hbm, 262, rfl⟩
abbrev main_call1_v8 : Ref sig .tc := ⟨.hbm, 263, rfl⟩
abbrev main_call1_v9 : Ref sig .tc := ⟨.hbm, 264, rfl⟩
abbrev main_call1_c : Ref sig .tc := ⟨.hbm, 265, rfl⟩
abbrev main_call1_v10 : Ref sig .tc := ⟨.hbm, 266, rfl⟩
abbrev main_call1_v11 : Ref sig .tc := ⟨.hbm, 267, rfl⟩
abbrev main_call1_c_0 : Ref sig .tc := ⟨.hbm, 268, rfl⟩
abbrev main_call1_v12 : Ref sig .tc := ⟨.hbm, 269, rfl⟩
abbrev main_call1_v13 : Ref sig .tc := ⟨.hbm, 270, rfl⟩
abbrev main_call1_v14 : Ref sig .tc := ⟨.hbm, 271, rfl⟩
abbrev main_call1_c_1 : Ref sig .tc := ⟨.hbm, 272, rfl⟩
abbrev main_call1_v15 : Ref sig .tc := ⟨.hbm, 273, rfl⟩
abbrev main_call1_v16 : Ref sig .tc := ⟨.hbm, 274, rfl⟩
abbrev main_call1_v17 : Ref sig .tc := ⟨.hbm, 275, rfl⟩
abbrev main_call1_v18 : Ref sig .tc := ⟨.hbm, 276, rfl⟩
abbrev main_call1_call0_v0 : Ref sig .tc := ⟨.hbm, 277, rfl⟩
abbrev main_call1_call0_c : Ref sig .tc := ⟨.hbm, 278, rfl⟩
abbrev main_call1_call0_v1 : Ref sig .tc := ⟨.hbm, 279, rfl⟩
abbrev main_call1_call0_v2 : Ref sig .tc := ⟨.hbm, 280, rfl⟩
abbrev main_call1_call0_v3 : Ref sig .tc := ⟨.hbm, 281, rfl⟩
abbrev main_call1_call0_v4 : Ref sig .tc := ⟨.hbm, 282, rfl⟩
abbrev main_call1_call0_v5 : Ref sig .tc := ⟨.hbm, 283, rfl⟩
abbrev main_call1_call0_v6 : Ref sig .tc := ⟨.hbm, 284, rfl⟩
abbrev main_call1_call0_c_0 : Ref sig .tc := ⟨.hbm, 285, rfl⟩
abbrev main_call1_call0_v7 : Ref sig .tc := ⟨.hbm, 286, rfl⟩
abbrev main_call1_call0_v8 : Ref sig .tc := ⟨.hbm, 287, rfl⟩
abbrev main_call1_call0_c_1 : Ref sig .tc := ⟨.hbm, 288, rfl⟩
abbrev main_call1_call0_v9 : Ref sig .tc := ⟨.hbm, 289, rfl⟩
abbrev main_call1_call0_v10 : Ref sig .tc := ⟨.hbm, 290, rfl⟩
abbrev main_call1_call0_v11 : Ref sig .tc := ⟨.hbm, 291, rfl⟩
abbrev main_call1_call0_v12 : Ref sig .tc := ⟨.hbm, 292, rfl⟩
abbrev main_call1_call0_v13 : Ref sig .tc := ⟨.hbm, 293, rfl⟩
abbrev main_call1_call0_c_2 : Ref sig .tc := ⟨.hbm, 294, rfl⟩
abbrev main_call1_call0_v14 : Ref sig .tc := ⟨.hbm, 295, rfl⟩
abbrev main_call1_call0_v15 : Ref sig .tc := ⟨.hbm, 296, rfl⟩
abbrev main_call1_call0_c_3 : Ref sig .tc := ⟨.hbm, 297, rfl⟩
abbrev main_call1_call0_v16 : Ref sig .tc := ⟨.hbm, 298, rfl⟩
abbrev main_call1_call0_v17 : Ref sig .tc := ⟨.hbm, 299, rfl⟩
abbrev main_call1_call0_v18 : Ref sig .tc := ⟨.hbm, 300, rfl⟩
abbrev main_call1_call0_v19 : Ref sig .tc := ⟨.hbm, 301, rfl⟩
abbrev main_call1_call0_v20 : Ref sig .tc := ⟨.hbm, 302, rfl⟩
abbrev main_call1_call0_c_4 : Ref sig .tc := ⟨.hbm, 303, rfl⟩
abbrev main_call1_call0_v21 : Ref sig .tc := ⟨.hbm, 304, rfl⟩
abbrev main_call1_call0_v22 : Ref sig .tc := ⟨.hbm, 305, rfl⟩
abbrev main_call1_call0_c_5 : Ref sig .tc := ⟨.hbm, 306, rfl⟩
abbrev main_call1_call0_v23 : Ref sig .tc := ⟨.hbm, 307, rfl⟩
abbrev main_call1_call0_v24 : Ref sig .tc := ⟨.hbm, 308, rfl⟩
abbrev main_call1_call0_v25 : Ref sig .tc := ⟨.hbm, 309, rfl⟩
abbrev main_call1_call0_v26 : Ref sig .tc := ⟨.hbm, 310, rfl⟩
abbrev main_call1_call0_v27 : Ref sig .tc := ⟨.hbm, 311, rfl⟩
abbrev main_call1_call0_c_6 : Ref sig .tc := ⟨.hbm, 312, rfl⟩
abbrev main_call1_call0_v28 : Ref sig .tc := ⟨.hbm, 313, rfl⟩
abbrev main_call1_call0_v29 : Ref sig .tc := ⟨.hbm, 314, rfl⟩
abbrev main_call1_call0_c_7 : Ref sig .tc := ⟨.hbm, 315, rfl⟩
abbrev main_call1_call0_v30 : Ref sig .tc := ⟨.hbm, 316, rfl⟩
abbrev main_call1_call0_v31 : Ref sig .tc := ⟨.hbm, 317, rfl⟩
abbrev main_call1_call0_v32 : Ref sig .tc := ⟨.hbm, 318, rfl⟩
abbrev main_call1_call0_v33 : Ref sig .tc := ⟨.hbm, 319, rfl⟩
abbrev main_call1_call0_v34 : Ref sig .tc := ⟨.hbm, 320, rfl⟩
abbrev main_call1_call0_v35 : Ref sig .tc := ⟨.hbm, 321, rfl⟩
abbrev main_call1_call0_v36 : Ref sig .tc := ⟨.hbm, 322, rfl⟩
abbrev main_call1_call0_v37 : Ref sig .tc := ⟨.hbm, 323, rfl⟩
abbrev main_call1_call0_c_8 : Ref sig .tc := ⟨.hbm, 324, rfl⟩
abbrev main_call1_call0_v38 : Ref sig .tc := ⟨.hbm, 325, rfl⟩
abbrev main_call1_call0_v39 : Ref sig .tc := ⟨.hbm, 326, rfl⟩
abbrev main_call1_call0_v40 : Ref sig .tc := ⟨.hbm, 327, rfl⟩
abbrev main_call1_call0_c_9 : Ref sig .tc := ⟨.hbm, 328, rfl⟩
abbrev main_call1_call0_v41 : Ref sig .tc := ⟨.hbm, 329, rfl⟩
abbrev main_call1_call0_v42 : Ref sig .tc := ⟨.hbm, 330, rfl⟩
abbrev main_call1_call0_c_10 : Ref sig .tc := ⟨.hbm, 331, rfl⟩
abbrev main_call1_call0_v43 : Ref sig .tc := ⟨.hbm, 332, rfl⟩
abbrev main_call1_call0_v44 : Ref sig .tc := ⟨.hbm, 333, rfl⟩
abbrev main_call1_call0_v45 : Ref sig .tc := ⟨.hbm, 334, rfl⟩
abbrev main_call1_call0_v46 : Ref sig .tc := ⟨.hbm, 335, rfl⟩
abbrev main_call1_call0_v47 : Ref sig .tc := ⟨.hbm, 336, rfl⟩
abbrev main_call1_call0_c_11 : Ref sig .tc := ⟨.hbm, 337, rfl⟩
abbrev main_call1_call0_v48 : Ref sig .tc := ⟨.hbm, 338, rfl⟩
abbrev main_call1_call0_v49 : Ref sig .tc := ⟨.hbm, 339, rfl⟩
abbrev main_call1_call0_c_12 : Ref sig .tc := ⟨.hbm, 340, rfl⟩
abbrev main_call1_call0_v50 : Ref sig .tc := ⟨.hbm, 341, rfl⟩
abbrev main_call1_call0_v51 : Ref sig .tc := ⟨.hbm, 342, rfl⟩
abbrev main_call1_call0_v52 : Ref sig .tc := ⟨.hbm, 343, rfl⟩
abbrev main_call1_call0_v53 : Ref sig .tc := ⟨.hbm, 344, rfl⟩
abbrev main_call1_call0_v54 : Ref sig .tc := ⟨.hbm, 345, rfl⟩
abbrev main_call1_call0_c_13 : Ref sig .tc := ⟨.hbm, 346, rfl⟩
abbrev main_call1_call0_v55 : Ref sig .tc := ⟨.hbm, 347, rfl⟩
abbrev main_call1_call0_v56 : Ref sig .tc := ⟨.hbm, 348, rfl⟩
abbrev main_call1_call0_c_14 : Ref sig .tc := ⟨.hbm, 349, rfl⟩
abbrev main_call1_call0_v57 : Ref sig .tc := ⟨.hbm, 350, rfl⟩
abbrev main_call1_call0_v58 : Ref sig .tc := ⟨.hbm, 351, rfl⟩
abbrev main_call1_call0_v59 : Ref sig .tc := ⟨.hbm, 352, rfl⟩
abbrev main_call1_call0_v60 : Ref sig .tc := ⟨.hbm, 353, rfl⟩
abbrev main_call1_call0_v61 : Ref sig .tc := ⟨.hbm, 354, rfl⟩
abbrev main_call1_call0_c_15 : Ref sig .tc := ⟨.hbm, 355, rfl⟩
abbrev main_call1_call0_v62 : Ref sig .tc := ⟨.hbm, 356, rfl⟩
abbrev main_call1_call0_v63 : Ref sig .tc := ⟨.hbm, 357, rfl⟩
abbrev main_call1_call0_c_16 : Ref sig .tc := ⟨.hbm, 358, rfl⟩
abbrev main_call1_call0_v64 : Ref sig .tc := ⟨.hbm, 359, rfl⟩
abbrev main_call1_call0_v65 : Ref sig .tc := ⟨.hbm, 360, rfl⟩
abbrev main_call1_call0_v66 : Ref sig .tc := ⟨.hbm, 361, rfl⟩
abbrev main_call1_call0_v67 : Ref sig .tc := ⟨.hbm, 362, rfl⟩
abbrev main_call1_call0_v68 : Ref sig .tc := ⟨.hbm, 363, rfl⟩
abbrev main_call1_call0_v69 : Ref sig .tc := ⟨.hbm, 364, rfl⟩
abbrev main_call1_call0_v70 : Ref sig .tc := ⟨.hbm, 365, rfl⟩
abbrev main_call1_call0_v71 : Ref sig .tc := ⟨.hbm, 366, rfl⟩
abbrev main_call1_call0_c_17 : Ref sig .tc := ⟨.hbm, 367, rfl⟩
abbrev main_call1_call0_v72 : Ref sig .tc := ⟨.hbm, 368, rfl⟩
abbrev main_call1_call0_v73 : Ref sig .tc := ⟨.hbm, 369, rfl⟩
abbrev main_call1_call0_v74 : Ref sig .tc := ⟨.hbm, 370, rfl⟩
abbrev main_call1_call0_c_18 : Ref sig .tc := ⟨.hbm, 371, rfl⟩
abbrev main_call1_call0_v75 : Ref sig .tc := ⟨.hbm, 372, rfl⟩
abbrev main_call1_call0_v76 : Ref sig .tc := ⟨.hbm, 373, rfl⟩
abbrev main_call1_call0_c_19 : Ref sig .tc := ⟨.hbm, 374, rfl⟩
abbrev main_call1_call0_v77 : Ref sig .tc := ⟨.hbm, 375, rfl⟩
abbrev main_call1_call0_v78 : Ref sig .tc := ⟨.hbm, 376, rfl⟩
abbrev main_call1_call0_v79 : Ref sig .tc := ⟨.hbm, 377, rfl⟩
abbrev main_call1_call0_v80 : Ref sig .tc := ⟨.hbm, 378, rfl⟩
abbrev main_call1_call0_v81 : Ref sig .tc := ⟨.hbm, 379, rfl⟩
abbrev main_call1_call0_c_20 : Ref sig .tc := ⟨.hbm, 380, rfl⟩
abbrev main_call1_call0_v82 : Ref sig .tc := ⟨.hbm, 381, rfl⟩
abbrev main_call1_call0_v83 : Ref sig .tc := ⟨.hbm, 382, rfl⟩
abbrev main_call1_call0_c_21 : Ref sig .tc := ⟨.hbm, 383, rfl⟩
abbrev main_call1_call0_v84 : Ref sig .tc := ⟨.hbm, 384, rfl⟩
abbrev main_call1_call0_v85 : Ref sig .tc := ⟨.hbm, 385, rfl⟩
abbrev main_call1_call0_v86 : Ref sig .tc := ⟨.hbm, 386, rfl⟩
abbrev main_call1_call0_v87 : Ref sig .tc := ⟨.hbm, 387, rfl⟩
abbrev main_call1_call0_v88 : Ref sig .tc := ⟨.hbm, 388, rfl⟩
abbrev main_call1_call0_c_22 : Ref sig .tc := ⟨.hbm, 389, rfl⟩
abbrev main_call1_call0_v89 : Ref sig .tc := ⟨.hbm, 390, rfl⟩
abbrev main_call1_call0_v90 : Ref sig .tc := ⟨.hbm, 391, rfl⟩
abbrev main_call1_call0_c_23 : Ref sig .tc := ⟨.hbm, 392, rfl⟩
abbrev main_call1_call0_v91 : Ref sig .tc := ⟨.hbm, 393, rfl⟩
abbrev main_call1_call0_v92 : Ref sig .tc := ⟨.hbm, 394, rfl⟩
abbrev main_call1_call0_v93 : Ref sig .tc := ⟨.hbm, 395, rfl⟩
abbrev main_call1_call0_v94 : Ref sig .tc := ⟨.hbm, 396, rfl⟩
abbrev main_call1_call0_v95 : Ref sig .tc := ⟨.hbm, 397, rfl⟩
abbrev main_call1_call0_c_24 : Ref sig .tc := ⟨.hbm, 398, rfl⟩
abbrev main_call1_call0_v96 : Ref sig .tc := ⟨.hbm, 399, rfl⟩
abbrev main_call1_call0_v97 : Ref sig .tc := ⟨.hbm, 400, rfl⟩
abbrev main_call1_call0_c_25 : Ref sig .tc := ⟨.hbm, 401, rfl⟩
abbrev main_call1_call0_v98 : Ref sig .tc := ⟨.hbm, 402, rfl⟩
abbrev main_call1_call0_v99 : Ref sig .tc := ⟨.hbm, 403, rfl⟩
abbrev main_call1_call0_v100 : Ref sig .tc := ⟨.hbm, 404, rfl⟩
abbrev main_call1_call0_v101 : Ref sig .tc := ⟨.hbm, 405, rfl⟩
abbrev main_call1_call0_v102 : Ref sig .tc := ⟨.hbm, 406, rfl⟩
abbrev main_call1_call0_v103 : Ref sig .tc := ⟨.hbm, 407, rfl⟩
abbrev main_call1_call0_v104 : Ref sig .tc := ⟨.hbm, 408, rfl⟩
abbrev main_call1_call0_v105 : Ref sig .tc := ⟨.hbm, 409, rfl⟩
abbrev main_call1_call0_c_26 : Ref sig .tc := ⟨.hbm, 410, rfl⟩
abbrev main_call1_call0_v106 : Ref sig .tc := ⟨.hbm, 411, rfl⟩
abbrev main_call1_call0_v107 : Ref sig .tc := ⟨.hbm, 412, rfl⟩
abbrev main_call1_call0_v108 : Ref sig .tc := ⟨.hbm, 413, rfl⟩
abbrev main_call1_call0_c_27 : Ref sig .tc := ⟨.hbm, 414, rfl⟩
abbrev main_call1_call0_v109 : Ref sig .tc := ⟨.hbm, 415, rfl⟩
abbrev main_call1_call0_v110 : Ref sig .tc := ⟨.hbm, 416, rfl⟩
abbrev main_call1_call0_c_28 : Ref sig .tc := ⟨.hbm, 417, rfl⟩
abbrev main_call1_call0_v111 : Ref sig .tc := ⟨.hbm, 418, rfl⟩
abbrev main_call1_call0_v112 : Ref sig .tc := ⟨.hbm, 419, rfl⟩
abbrev main_call1_call0_v113 : Ref sig .tc := ⟨.hbm, 420, rfl⟩
abbrev main_call1_call0_v114 : Ref sig .tc := ⟨.hbm, 421, rfl⟩
abbrev main_call1_call0_v115 : Ref sig .tc := ⟨.hbm, 422, rfl⟩
abbrev main_call1_call0_c_29 : Ref sig .tc := ⟨.hbm, 423, rfl⟩
abbrev main_call1_call0_v116 : Ref sig .tc := ⟨.hbm, 424, rfl⟩
abbrev main_call1_call0_v117 : Ref sig .tc := ⟨.hbm, 425, rfl⟩
abbrev main_call1_call0_c_30 : Ref sig .tc := ⟨.hbm, 426, rfl⟩
abbrev main_call1_call0_v118 : Ref sig .tc := ⟨.hbm, 427, rfl⟩
abbrev main_call1_call0_v119 : Ref sig .tc := ⟨.hbm, 428, rfl⟩
abbrev main_call1_call0_v120 : Ref sig .tc := ⟨.hbm, 429, rfl⟩
abbrev main_call1_call0_v121 : Ref sig .tc := ⟨.hbm, 430, rfl⟩
abbrev main_call1_call0_v122 : Ref sig .tc := ⟨.hbm, 431, rfl⟩
abbrev main_call1_call0_c_31 : Ref sig .tc := ⟨.hbm, 432, rfl⟩
abbrev main_call1_call0_v123 : Ref sig .tc := ⟨.hbm, 433, rfl⟩
abbrev main_call1_call0_v124 : Ref sig .tc := ⟨.hbm, 434, rfl⟩
abbrev main_call1_call0_c_32 : Ref sig .tc := ⟨.hbm, 435, rfl⟩
abbrev main_call1_call0_v125 : Ref sig .tc := ⟨.hbm, 436, rfl⟩
abbrev main_call1_call0_v126 : Ref sig .tc := ⟨.hbm, 437, rfl⟩
abbrev main_call1_call0_v127 : Ref sig .tc := ⟨.hbm, 438, rfl⟩
abbrev main_call1_call0_v128 : Ref sig .tc := ⟨.hbm, 439, rfl⟩
abbrev main_call1_call0_v129 : Ref sig .tc := ⟨.hbm, 440, rfl⟩
abbrev main_call1_call0_c_33 : Ref sig .tc := ⟨.hbm, 441, rfl⟩
abbrev main_call1_call0_v130 : Ref sig .tc := ⟨.hbm, 442, rfl⟩
abbrev main_call1_call0_v131 : Ref sig .tc := ⟨.hbm, 443, rfl⟩
abbrev main_call1_call0_c_34 : Ref sig .tc := ⟨.hbm, 444, rfl⟩
abbrev main_call1_call0_v132 : Ref sig .tc := ⟨.hbm, 445, rfl⟩
abbrev main_call1_call0_v133 : Ref sig .tc := ⟨.hbm, 446, rfl⟩
abbrev main_call1_call0_v134 : Ref sig .tc := ⟨.hbm, 447, rfl⟩
abbrev main_call1_call0_v135 : Ref sig .tc := ⟨.hbm, 448, rfl⟩
abbrev main_call1_call0_v136 : Ref sig .tc := ⟨.hbm, 449, rfl⟩
abbrev main_call1_call0_v137 : Ref sig .tc := ⟨.hbm, 450, rfl⟩
abbrev main_call1_call0_v138 : Ref sig .tc := ⟨.hbm, 451, rfl⟩
abbrev main_call1_call0_v139 : Ref sig .tc := ⟨.hbm, 452, rfl⟩
abbrev main_call1_call0_c_35 : Ref sig .tc := ⟨.hbm, 453, rfl⟩
abbrev main_call1_call0_v140 : Ref sig .tc := ⟨.hbm, 454, rfl⟩
abbrev main_call1_call0_v141 : Ref sig .tc := ⟨.hbm, 455, rfl⟩
abbrev main_call1_call0_v142 : Ref sig .tc := ⟨.hbm, 456, rfl⟩
abbrev main_call1_call0_c_36 : Ref sig .tc := ⟨.hbm, 457, rfl⟩
abbrev main_call1_call0_v143 : Ref sig .tc := ⟨.hbm, 458, rfl⟩
abbrev main_call1_call0_v144 : Ref sig .tc := ⟨.hbm, 459, rfl⟩
abbrev main_call1_call0_c_37 : Ref sig .tc := ⟨.hbm, 460, rfl⟩
abbrev main_call1_call0_v145 : Ref sig .tc := ⟨.hbm, 461, rfl⟩
abbrev main_call1_call0_v146 : Ref sig .tc := ⟨.hbm, 462, rfl⟩
abbrev main_call1_call0_v147 : Ref sig .tc := ⟨.hbm, 463, rfl⟩
abbrev main_call1_call0_v148 : Ref sig .tc := ⟨.hbm, 464, rfl⟩
abbrev main_call1_call0_v149 : Ref sig .tc := ⟨.hbm, 465, rfl⟩
abbrev main_call1_call0_c_38 : Ref sig .tc := ⟨.hbm, 466, rfl⟩
abbrev main_call1_call0_v150 : Ref sig .tc := ⟨.hbm, 467, rfl⟩
abbrev main_call1_call0_v151 : Ref sig .tc := ⟨.hbm, 468, rfl⟩
abbrev main_call1_call0_c_39 : Ref sig .tc := ⟨.hbm, 469, rfl⟩
abbrev main_call1_call0_v152 : Ref sig .tc := ⟨.hbm, 470, rfl⟩
abbrev main_call1_call0_v153 : Ref sig .tc := ⟨.hbm, 471, rfl⟩
abbrev main_call1_call0_v154 : Ref sig .tc := ⟨.hbm, 472, rfl⟩
abbrev main_call1_call0_v155 : Ref sig .tc := ⟨.hbm, 473, rfl⟩
abbrev main_call1_call0_v156 : Ref sig .tc := ⟨.hbm, 474, rfl⟩
abbrev main_call1_call0_c_40 : Ref sig .tc := ⟨.hbm, 475, rfl⟩
abbrev main_call1_call0_v157 : Ref sig .tc := ⟨.hbm, 476, rfl⟩
abbrev main_call1_call0_v158 : Ref sig .tc := ⟨.hbm, 477, rfl⟩
abbrev main_call1_call0_c_41 : Ref sig .tc := ⟨.hbm, 478, rfl⟩
abbrev main_call1_call0_v159 : Ref sig .tc := ⟨.hbm, 479, rfl⟩
abbrev main_call1_call0_v160 : Ref sig .tc := ⟨.hbm, 480, rfl⟩
abbrev main_call1_call0_v161 : Ref sig .tc := ⟨.hbm, 481, rfl⟩
abbrev main_call1_call0_v162 : Ref sig .tc := ⟨.hbm, 482, rfl⟩
abbrev main_call1_call0_v163 : Ref sig .tc := ⟨.hbm, 483, rfl⟩
abbrev main_call1_call0_c_42 : Ref sig .tc := ⟨.hbm, 484, rfl⟩
abbrev main_call1_call0_v164 : Ref sig .tc := ⟨.hbm, 485, rfl⟩
abbrev main_call1_call0_v165 : Ref sig .tc := ⟨.hbm, 486, rfl⟩
abbrev main_call1_call0_c_43 : Ref sig .tc := ⟨.hbm, 487, rfl⟩
abbrev main_call1_call0_v166 : Ref sig .tc := ⟨.hbm, 488, rfl⟩
abbrev main_call1_call0_v167 : Ref sig .tc := ⟨.hbm, 489, rfl⟩
abbrev main_call1_call0_v168 : Ref sig .tc := ⟨.hbm, 490, rfl⟩
abbrev main_call1_call0_v169 : Ref sig .tc := ⟨.hbm, 491, rfl⟩
abbrev main_call1_call0_v170 : Ref sig .tc := ⟨.hbm, 492, rfl⟩
abbrev main_call1_v19_0 : Ref sig .tc := ⟨.hbm, 493, rfl⟩
abbrev main_call1_call0_v172 : Ref sig .tc := ⟨.hbm, 494, rfl⟩
abbrev main_call1_call0_v173 : Ref sig .tc := ⟨.hbm, 495, rfl⟩
abbrev main_call1_call0_c_44 : Ref sig .tc := ⟨.hbm, 496, rfl⟩
abbrev main_call1_call0_v174 : Ref sig .tc := ⟨.hbm, 497, rfl⟩
abbrev main_call1_v19_1 : Ref sig .tc := ⟨.hbm, 498, rfl⟩
abbrev main_call1_v20 : Ref sig .tc := ⟨.hbm, 499, rfl⟩
abbrev main_call1_c_2 : Ref sig .tc := ⟨.hbm, 500, rfl⟩
abbrev main_call1_v21 : Ref sig .tc := ⟨.hbm, 501, rfl⟩
abbrev main_call1_v22 : Ref sig .tc := ⟨.hbm, 502, rfl⟩
abbrev main_call1_c_3 : Ref sig .tc := ⟨.hbm, 503, rfl⟩
abbrev main_call1_v23 : Ref sig .tc := ⟨.hbm, 504, rfl⟩
abbrev main_call1_v24 : Ref sig .tc := ⟨.hbm, 505, rfl⟩
abbrev main_call1_v25 : Ref sig .tc := ⟨.hbm, 506, rfl⟩
abbrev main_call1_cst : Ref sig .tc := ⟨.hbm, 507, rfl⟩
abbrev main_call1_v26 : Ref sig .tc := ⟨.hbm, 508, rfl⟩
abbrev main_call1_v27 : Ref sig .tc := ⟨.hbm, 509, rfl⟩
abbrev main_call1_v28 : Ref sig .tc := ⟨.hbm, 510, rfl⟩
abbrev main_call1_v29 : Ref sig .tc := ⟨.hbm, 511, rfl⟩
abbrev main_call1_v30 : Ref sig .tc := ⟨.hbm, 512, rfl⟩
abbrev main_call1_v31 : Ref sig .tc := ⟨.hbm, 513, rfl⟩
abbrev main_call1_v32 : Ref sig .tc := ⟨.hbm, 514, rfl⟩
abbrev main_call1_v33 : Ref sig .tc := ⟨.hbm, 515, rfl⟩
abbrev main_v12 : Ref sig .tc := ⟨.hbm, 516, rfl⟩
abbrev main_cst_3 : Ref sig .tc := ⟨.hbm, 517, rfl⟩
abbrev main_v13 : Ref sig .tc := ⟨.hbm, 518, rfl⟩
abbrev main_v14 : Ref sig .tc := ⟨.hbm, 519, rfl⟩
abbrev main_cst_4 : Ref sig .tc := ⟨.hbm, 520, rfl⟩
abbrev main_cst_5 : Ref sig .tc := ⟨.hbm, 521, rfl⟩
abbrev main_call2_v0 : Ref sig .tc := ⟨.hbm, 522, rfl⟩
abbrev main_call2_v1 : Ref sig .tc := ⟨.hbm, 523, rfl⟩
abbrev main_call2_v2 : Ref sig .tc := ⟨.hbm, 524, rfl⟩
abbrev main_call2_v3 : Ref sig .tc := ⟨.hbm, 525, rfl⟩
abbrev main_call2_v4 : Ref sig .tc := ⟨.hbm, 526, rfl⟩
abbrev main_call2_v5 : Ref sig .tc := ⟨.hbm, 527, rfl⟩
abbrev main_call2_v6 : Ref sig .tc := ⟨.hbm, 528, rfl⟩
abbrev main_call2_v7 : Ref sig .tc := ⟨.hbm, 529, rfl⟩
abbrev main_call2_v8 : Ref sig .tc := ⟨.hbm, 530, rfl⟩
abbrev main_call2_v9 : Ref sig .tc := ⟨.hbm, 531, rfl⟩
abbrev main_call2_c : Ref sig .tc := ⟨.hbm, 532, rfl⟩
abbrev main_call2_v10 : Ref sig .tc := ⟨.hbm, 533, rfl⟩
abbrev main_call2_v11 : Ref sig .tc := ⟨.hbm, 534, rfl⟩
abbrev main_call2_c_0 : Ref sig .tc := ⟨.hbm, 535, rfl⟩
abbrev main_call2_v12 : Ref sig .tc := ⟨.hbm, 536, rfl⟩
abbrev main_call2_v13 : Ref sig .tc := ⟨.hbm, 537, rfl⟩
abbrev main_call2_v14 : Ref sig .tc := ⟨.hbm, 538, rfl⟩
abbrev main_call2_c_1 : Ref sig .tc := ⟨.hbm, 539, rfl⟩
abbrev main_call2_v15 : Ref sig .tc := ⟨.hbm, 540, rfl⟩
abbrev main_call2_v16 : Ref sig .tc := ⟨.hbm, 541, rfl⟩
abbrev main_call2_v17 : Ref sig .tc := ⟨.hbm, 542, rfl⟩
abbrev main_call2_v18 : Ref sig .tc := ⟨.hbm, 543, rfl⟩
abbrev main_call2_call0_v0 : Ref sig .tc := ⟨.hbm, 544, rfl⟩
abbrev main_call2_call0_c : Ref sig .tc := ⟨.hbm, 545, rfl⟩
abbrev main_call2_call0_v1 : Ref sig .tc := ⟨.hbm, 546, rfl⟩
abbrev main_call2_call0_v2 : Ref sig .tc := ⟨.hbm, 547, rfl⟩
abbrev main_call2_call0_v3 : Ref sig .tc := ⟨.hbm, 548, rfl⟩
abbrev main_call2_call0_v4 : Ref sig .tc := ⟨.hbm, 549, rfl⟩
abbrev main_call2_call0_v5 : Ref sig .tc := ⟨.hbm, 550, rfl⟩
abbrev main_call2_call0_v6 : Ref sig .tc := ⟨.hbm, 551, rfl⟩
abbrev main_call2_call0_c_0 : Ref sig .tc := ⟨.hbm, 552, rfl⟩
abbrev main_call2_call0_v7 : Ref sig .tc := ⟨.hbm, 553, rfl⟩
abbrev main_call2_call0_v8 : Ref sig .tc := ⟨.hbm, 554, rfl⟩
abbrev main_call2_call0_c_1 : Ref sig .tc := ⟨.hbm, 555, rfl⟩
abbrev main_call2_call0_v9 : Ref sig .tc := ⟨.hbm, 556, rfl⟩
abbrev main_call2_call0_v10 : Ref sig .tc := ⟨.hbm, 557, rfl⟩
abbrev main_call2_call0_v11 : Ref sig .tc := ⟨.hbm, 558, rfl⟩
abbrev main_call2_call0_v12 : Ref sig .tc := ⟨.hbm, 559, rfl⟩
abbrev main_call2_call0_v13 : Ref sig .tc := ⟨.hbm, 560, rfl⟩
abbrev main_call2_call0_c_2 : Ref sig .tc := ⟨.hbm, 561, rfl⟩
abbrev main_call2_call0_v14 : Ref sig .tc := ⟨.hbm, 562, rfl⟩
abbrev main_call2_call0_v15 : Ref sig .tc := ⟨.hbm, 563, rfl⟩
abbrev main_call2_call0_c_3 : Ref sig .tc := ⟨.hbm, 564, rfl⟩
abbrev main_call2_call0_v16 : Ref sig .tc := ⟨.hbm, 565, rfl⟩
abbrev main_call2_call0_v17 : Ref sig .tc := ⟨.hbm, 566, rfl⟩
abbrev main_call2_call0_v18 : Ref sig .tc := ⟨.hbm, 567, rfl⟩
abbrev main_call2_call0_v19 : Ref sig .tc := ⟨.hbm, 568, rfl⟩
abbrev main_call2_call0_v20 : Ref sig .tc := ⟨.hbm, 569, rfl⟩
abbrev main_call2_call0_c_4 : Ref sig .tc := ⟨.hbm, 570, rfl⟩
abbrev main_call2_call0_v21 : Ref sig .tc := ⟨.hbm, 571, rfl⟩
abbrev main_call2_call0_v22 : Ref sig .tc := ⟨.hbm, 572, rfl⟩
abbrev main_call2_call0_c_5 : Ref sig .tc := ⟨.hbm, 573, rfl⟩
abbrev main_call2_call0_v23 : Ref sig .tc := ⟨.hbm, 574, rfl⟩
abbrev main_call2_call0_v24 : Ref sig .tc := ⟨.hbm, 575, rfl⟩
abbrev main_call2_call0_v25 : Ref sig .tc := ⟨.hbm, 576, rfl⟩
abbrev main_call2_call0_v26 : Ref sig .tc := ⟨.hbm, 577, rfl⟩
abbrev main_call2_call0_v27 : Ref sig .tc := ⟨.hbm, 578, rfl⟩
abbrev main_call2_call0_c_6 : Ref sig .tc := ⟨.hbm, 579, rfl⟩
abbrev main_call2_call0_v28 : Ref sig .tc := ⟨.hbm, 580, rfl⟩
abbrev main_call2_call0_v29 : Ref sig .tc := ⟨.hbm, 581, rfl⟩
abbrev main_call2_call0_c_7 : Ref sig .tc := ⟨.hbm, 582, rfl⟩
abbrev main_call2_call0_v30 : Ref sig .tc := ⟨.hbm, 583, rfl⟩
abbrev main_call2_call0_v31 : Ref sig .tc := ⟨.hbm, 584, rfl⟩
abbrev main_call2_call0_v32 : Ref sig .tc := ⟨.hbm, 585, rfl⟩
abbrev main_call2_call0_v33 : Ref sig .tc := ⟨.hbm, 586, rfl⟩
abbrev main_call2_call0_v34 : Ref sig .tc := ⟨.hbm, 587, rfl⟩
abbrev main_call2_call0_v35 : Ref sig .tc := ⟨.hbm, 588, rfl⟩
abbrev main_call2_call0_v36 : Ref sig .tc := ⟨.hbm, 589, rfl⟩
abbrev main_call2_call0_v37 : Ref sig .tc := ⟨.hbm, 590, rfl⟩
abbrev main_call2_call0_c_8 : Ref sig .tc := ⟨.hbm, 591, rfl⟩
abbrev main_call2_call0_v38 : Ref sig .tc := ⟨.hbm, 592, rfl⟩
abbrev main_call2_call0_v39 : Ref sig .tc := ⟨.hbm, 593, rfl⟩
abbrev main_call2_call0_v40 : Ref sig .tc := ⟨.hbm, 594, rfl⟩
abbrev main_call2_call0_c_9 : Ref sig .tc := ⟨.hbm, 595, rfl⟩
abbrev main_call2_call0_v41 : Ref sig .tc := ⟨.hbm, 596, rfl⟩
abbrev main_call2_call0_v42 : Ref sig .tc := ⟨.hbm, 597, rfl⟩
abbrev main_call2_call0_c_10 : Ref sig .tc := ⟨.hbm, 598, rfl⟩
abbrev main_call2_call0_v43 : Ref sig .tc := ⟨.hbm, 599, rfl⟩
abbrev main_call2_call0_v44 : Ref sig .tc := ⟨.hbm, 600, rfl⟩
abbrev main_call2_call0_v45 : Ref sig .tc := ⟨.hbm, 601, rfl⟩
abbrev main_call2_call0_v46 : Ref sig .tc := ⟨.hbm, 602, rfl⟩
abbrev main_call2_call0_v47 : Ref sig .tc := ⟨.hbm, 603, rfl⟩
abbrev main_call2_call0_c_11 : Ref sig .tc := ⟨.hbm, 604, rfl⟩
abbrev main_call2_call0_v48 : Ref sig .tc := ⟨.hbm, 605, rfl⟩
abbrev main_call2_call0_v49 : Ref sig .tc := ⟨.hbm, 606, rfl⟩
abbrev main_call2_call0_c_12 : Ref sig .tc := ⟨.hbm, 607, rfl⟩
abbrev main_call2_call0_v50 : Ref sig .tc := ⟨.hbm, 608, rfl⟩
abbrev main_call2_call0_v51 : Ref sig .tc := ⟨.hbm, 609, rfl⟩
abbrev main_call2_call0_v52 : Ref sig .tc := ⟨.hbm, 610, rfl⟩
abbrev main_call2_call0_v53 : Ref sig .tc := ⟨.hbm, 611, rfl⟩
abbrev main_call2_call0_v54 : Ref sig .tc := ⟨.hbm, 612, rfl⟩
abbrev main_call2_call0_c_13 : Ref sig .tc := ⟨.hbm, 613, rfl⟩
abbrev main_call2_call0_v55 : Ref sig .tc := ⟨.hbm, 614, rfl⟩
abbrev main_call2_call0_v56 : Ref sig .tc := ⟨.hbm, 615, rfl⟩
abbrev main_call2_call0_c_14 : Ref sig .tc := ⟨.hbm, 616, rfl⟩
abbrev main_call2_call0_v57 : Ref sig .tc := ⟨.hbm, 617, rfl⟩
abbrev main_call2_call0_v58 : Ref sig .tc := ⟨.hbm, 618, rfl⟩
abbrev main_call2_call0_v59 : Ref sig .tc := ⟨.hbm, 619, rfl⟩
abbrev main_call2_call0_v60 : Ref sig .tc := ⟨.hbm, 620, rfl⟩
abbrev main_call2_call0_v61 : Ref sig .tc := ⟨.hbm, 621, rfl⟩
abbrev main_call2_call0_c_15 : Ref sig .tc := ⟨.hbm, 622, rfl⟩
abbrev main_call2_call0_v62 : Ref sig .tc := ⟨.hbm, 623, rfl⟩
abbrev main_call2_call0_v63 : Ref sig .tc := ⟨.hbm, 624, rfl⟩
abbrev main_call2_call0_c_16 : Ref sig .tc := ⟨.hbm, 625, rfl⟩
abbrev main_call2_call0_v64 : Ref sig .tc := ⟨.hbm, 626, rfl⟩
abbrev main_call2_call0_v65 : Ref sig .tc := ⟨.hbm, 627, rfl⟩
abbrev main_call2_call0_v66 : Ref sig .tc := ⟨.hbm, 628, rfl⟩
abbrev main_call2_call0_v67 : Ref sig .tc := ⟨.hbm, 629, rfl⟩
abbrev main_call2_call0_v68 : Ref sig .tc := ⟨.hbm, 630, rfl⟩
abbrev main_call2_call0_v69 : Ref sig .tc := ⟨.hbm, 631, rfl⟩
abbrev main_call2_call0_v70 : Ref sig .tc := ⟨.hbm, 632, rfl⟩
abbrev main_call2_call0_v71 : Ref sig .tc := ⟨.hbm, 633, rfl⟩
abbrev main_call2_call0_c_17 : Ref sig .tc := ⟨.hbm, 634, rfl⟩
abbrev main_call2_call0_v72 : Ref sig .tc := ⟨.hbm, 635, rfl⟩
abbrev main_call2_call0_v73 : Ref sig .tc := ⟨.hbm, 636, rfl⟩
abbrev main_call2_call0_v74 : Ref sig .tc := ⟨.hbm, 637, rfl⟩
abbrev main_call2_call0_c_18 : Ref sig .tc := ⟨.hbm, 638, rfl⟩
abbrev main_call2_call0_v75 : Ref sig .tc := ⟨.hbm, 639, rfl⟩
abbrev main_call2_call0_v76 : Ref sig .tc := ⟨.hbm, 640, rfl⟩
abbrev main_call2_call0_c_19 : Ref sig .tc := ⟨.hbm, 641, rfl⟩
abbrev main_call2_call0_v77 : Ref sig .tc := ⟨.hbm, 642, rfl⟩
abbrev main_call2_call0_v78 : Ref sig .tc := ⟨.hbm, 643, rfl⟩
abbrev main_call2_call0_v79 : Ref sig .tc := ⟨.hbm, 644, rfl⟩
abbrev main_call2_call0_v80 : Ref sig .tc := ⟨.hbm, 645, rfl⟩
abbrev main_call2_call0_v81 : Ref sig .tc := ⟨.hbm, 646, rfl⟩
abbrev main_call2_call0_c_20 : Ref sig .tc := ⟨.hbm, 647, rfl⟩
abbrev main_call2_call0_v82 : Ref sig .tc := ⟨.hbm, 648, rfl⟩
abbrev main_call2_call0_v83 : Ref sig .tc := ⟨.hbm, 649, rfl⟩
abbrev main_call2_call0_c_21 : Ref sig .tc := ⟨.hbm, 650, rfl⟩
abbrev main_call2_call0_v84 : Ref sig .tc := ⟨.hbm, 651, rfl⟩
abbrev main_call2_call0_v85 : Ref sig .tc := ⟨.hbm, 652, rfl⟩
abbrev main_call2_call0_v86 : Ref sig .tc := ⟨.hbm, 653, rfl⟩
abbrev main_call2_call0_v87 : Ref sig .tc := ⟨.hbm, 654, rfl⟩
abbrev main_call2_call0_v88 : Ref sig .tc := ⟨.hbm, 655, rfl⟩
abbrev main_call2_call0_c_22 : Ref sig .tc := ⟨.hbm, 656, rfl⟩
abbrev main_call2_call0_v89 : Ref sig .tc := ⟨.hbm, 657, rfl⟩
abbrev main_call2_call0_v90 : Ref sig .tc := ⟨.hbm, 658, rfl⟩
abbrev main_call2_call0_c_23 : Ref sig .tc := ⟨.hbm, 659, rfl⟩
abbrev main_call2_call0_v91 : Ref sig .tc := ⟨.hbm, 660, rfl⟩
abbrev main_call2_call0_v92 : Ref sig .tc := ⟨.hbm, 661, rfl⟩
abbrev main_call2_call0_v93 : Ref sig .tc := ⟨.hbm, 662, rfl⟩
abbrev main_call2_call0_v94 : Ref sig .tc := ⟨.hbm, 663, rfl⟩
abbrev main_call2_call0_v95 : Ref sig .tc := ⟨.hbm, 664, rfl⟩
abbrev main_call2_call0_c_24 : Ref sig .tc := ⟨.hbm, 665, rfl⟩
abbrev main_call2_call0_v96 : Ref sig .tc := ⟨.hbm, 666, rfl⟩
abbrev main_call2_call0_v97 : Ref sig .tc := ⟨.hbm, 667, rfl⟩
abbrev main_call2_call0_c_25 : Ref sig .tc := ⟨.hbm, 668, rfl⟩
abbrev main_call2_call0_v98 : Ref sig .tc := ⟨.hbm, 669, rfl⟩
abbrev main_call2_call0_v99 : Ref sig .tc := ⟨.hbm, 670, rfl⟩
abbrev main_call2_call0_v100 : Ref sig .tc := ⟨.hbm, 671, rfl⟩
abbrev main_call2_call0_v101 : Ref sig .tc := ⟨.hbm, 672, rfl⟩
abbrev main_call2_call0_v102 : Ref sig .tc := ⟨.hbm, 673, rfl⟩
abbrev main_call2_call0_v103 : Ref sig .tc := ⟨.hbm, 674, rfl⟩
abbrev main_call2_call0_v104 : Ref sig .tc := ⟨.hbm, 675, rfl⟩
abbrev main_call2_call0_v105 : Ref sig .tc := ⟨.hbm, 676, rfl⟩
abbrev main_call2_call0_c_26 : Ref sig .tc := ⟨.hbm, 677, rfl⟩
abbrev main_call2_call0_v106 : Ref sig .tc := ⟨.hbm, 678, rfl⟩
abbrev main_call2_call0_v107 : Ref sig .tc := ⟨.hbm, 679, rfl⟩
abbrev main_call2_call0_v108 : Ref sig .tc := ⟨.hbm, 680, rfl⟩
abbrev main_call2_call0_c_27 : Ref sig .tc := ⟨.hbm, 681, rfl⟩
abbrev main_call2_call0_v109 : Ref sig .tc := ⟨.hbm, 682, rfl⟩
abbrev main_call2_call0_v110 : Ref sig .tc := ⟨.hbm, 683, rfl⟩
abbrev main_call2_call0_c_28 : Ref sig .tc := ⟨.hbm, 684, rfl⟩
abbrev main_call2_call0_v111 : Ref sig .tc := ⟨.hbm, 685, rfl⟩
abbrev main_call2_call0_v112 : Ref sig .tc := ⟨.hbm, 686, rfl⟩
abbrev main_call2_call0_v113 : Ref sig .tc := ⟨.hbm, 687, rfl⟩
abbrev main_call2_call0_v114 : Ref sig .tc := ⟨.hbm, 688, rfl⟩
abbrev main_call2_call0_v115 : Ref sig .tc := ⟨.hbm, 689, rfl⟩
abbrev main_call2_call0_c_29 : Ref sig .tc := ⟨.hbm, 690, rfl⟩
abbrev main_call2_call0_v116 : Ref sig .tc := ⟨.hbm, 691, rfl⟩
abbrev main_call2_call0_v117 : Ref sig .tc := ⟨.hbm, 692, rfl⟩
abbrev main_call2_call0_c_30 : Ref sig .tc := ⟨.hbm, 693, rfl⟩
abbrev main_call2_call0_v118 : Ref sig .tc := ⟨.hbm, 694, rfl⟩
abbrev main_call2_call0_v119 : Ref sig .tc := ⟨.hbm, 695, rfl⟩
abbrev main_call2_call0_v120 : Ref sig .tc := ⟨.hbm, 696, rfl⟩
abbrev main_call2_call0_v121 : Ref sig .tc := ⟨.hbm, 697, rfl⟩
abbrev main_call2_call0_v122 : Ref sig .tc := ⟨.hbm, 698, rfl⟩
abbrev main_call2_call0_c_31 : Ref sig .tc := ⟨.hbm, 699, rfl⟩
abbrev main_call2_call0_v123 : Ref sig .tc := ⟨.hbm, 700, rfl⟩
abbrev main_call2_call0_v124 : Ref sig .tc := ⟨.hbm, 701, rfl⟩
abbrev main_call2_call0_c_32 : Ref sig .tc := ⟨.hbm, 702, rfl⟩
abbrev main_call2_call0_v125 : Ref sig .tc := ⟨.hbm, 703, rfl⟩
abbrev main_call2_call0_v126 : Ref sig .tc := ⟨.hbm, 704, rfl⟩
abbrev main_call2_call0_v127 : Ref sig .tc := ⟨.hbm, 705, rfl⟩
abbrev main_call2_call0_v128 : Ref sig .tc := ⟨.hbm, 706, rfl⟩
abbrev main_call2_call0_v129 : Ref sig .tc := ⟨.hbm, 707, rfl⟩
abbrev main_call2_call0_c_33 : Ref sig .tc := ⟨.hbm, 708, rfl⟩
abbrev main_call2_call0_v130 : Ref sig .tc := ⟨.hbm, 709, rfl⟩
abbrev main_call2_call0_v131 : Ref sig .tc := ⟨.hbm, 710, rfl⟩
abbrev main_call2_call0_c_34 : Ref sig .tc := ⟨.hbm, 711, rfl⟩
abbrev main_call2_call0_v132 : Ref sig .tc := ⟨.hbm, 712, rfl⟩
abbrev main_call2_call0_v133 : Ref sig .tc := ⟨.hbm, 713, rfl⟩
abbrev main_call2_call0_v134 : Ref sig .tc := ⟨.hbm, 714, rfl⟩
abbrev main_call2_call0_v135 : Ref sig .tc := ⟨.hbm, 715, rfl⟩
abbrev main_call2_call0_v136 : Ref sig .tc := ⟨.hbm, 716, rfl⟩
abbrev main_call2_call0_v137 : Ref sig .tc := ⟨.hbm, 717, rfl⟩
abbrev main_call2_call0_v138 : Ref sig .tc := ⟨.hbm, 718, rfl⟩
abbrev main_call2_call0_v139 : Ref sig .tc := ⟨.hbm, 719, rfl⟩
abbrev main_call2_call0_c_35 : Ref sig .tc := ⟨.hbm, 720, rfl⟩
abbrev main_call2_call0_v140 : Ref sig .tc := ⟨.hbm, 721, rfl⟩
abbrev main_call2_call0_v141 : Ref sig .tc := ⟨.hbm, 722, rfl⟩
abbrev main_call2_call0_v142 : Ref sig .tc := ⟨.hbm, 723, rfl⟩
abbrev main_call2_call0_c_36 : Ref sig .tc := ⟨.hbm, 724, rfl⟩
abbrev main_call2_call0_v143 : Ref sig .tc := ⟨.hbm, 725, rfl⟩
abbrev main_call2_call0_v144 : Ref sig .tc := ⟨.hbm, 726, rfl⟩
abbrev main_call2_call0_c_37 : Ref sig .tc := ⟨.hbm, 727, rfl⟩
abbrev main_call2_call0_v145 : Ref sig .tc := ⟨.hbm, 728, rfl⟩
abbrev main_call2_call0_v146 : Ref sig .tc := ⟨.hbm, 729, rfl⟩
abbrev main_call2_call0_v147 : Ref sig .tc := ⟨.hbm, 730, rfl⟩
abbrev main_call2_call0_v148 : Ref sig .tc := ⟨.hbm, 731, rfl⟩
abbrev main_call2_call0_v149 : Ref sig .tc := ⟨.hbm, 732, rfl⟩
abbrev main_call2_call0_c_38 : Ref sig .tc := ⟨.hbm, 733, rfl⟩
abbrev main_call2_call0_v150 : Ref sig .tc := ⟨.hbm, 734, rfl⟩
abbrev main_call2_call0_v151 : Ref sig .tc := ⟨.hbm, 735, rfl⟩
abbrev main_call2_call0_c_39 : Ref sig .tc := ⟨.hbm, 736, rfl⟩
abbrev main_call2_call0_v152 : Ref sig .tc := ⟨.hbm, 737, rfl⟩
abbrev main_call2_call0_v153 : Ref sig .tc := ⟨.hbm, 738, rfl⟩
abbrev main_call2_call0_v154 : Ref sig .tc := ⟨.hbm, 739, rfl⟩
abbrev main_call2_call0_v155 : Ref sig .tc := ⟨.hbm, 740, rfl⟩
abbrev main_call2_call0_v156 : Ref sig .tc := ⟨.hbm, 741, rfl⟩
abbrev main_call2_call0_c_40 : Ref sig .tc := ⟨.hbm, 742, rfl⟩
abbrev main_call2_call0_v157 : Ref sig .tc := ⟨.hbm, 743, rfl⟩
abbrev main_call2_call0_v158 : Ref sig .tc := ⟨.hbm, 744, rfl⟩
abbrev main_call2_call0_c_41 : Ref sig .tc := ⟨.hbm, 745, rfl⟩
abbrev main_call2_call0_v159 : Ref sig .tc := ⟨.hbm, 746, rfl⟩
abbrev main_call2_call0_v160 : Ref sig .tc := ⟨.hbm, 747, rfl⟩
abbrev main_call2_call0_v161 : Ref sig .tc := ⟨.hbm, 748, rfl⟩
abbrev main_call2_call0_v162 : Ref sig .tc := ⟨.hbm, 749, rfl⟩
abbrev main_call2_call0_v163 : Ref sig .tc := ⟨.hbm, 750, rfl⟩
abbrev main_call2_call0_c_42 : Ref sig .tc := ⟨.hbm, 751, rfl⟩
abbrev main_call2_call0_v164 : Ref sig .tc := ⟨.hbm, 752, rfl⟩
abbrev main_call2_call0_v165 : Ref sig .tc := ⟨.hbm, 753, rfl⟩
abbrev main_call2_call0_c_43 : Ref sig .tc := ⟨.hbm, 754, rfl⟩
abbrev main_call2_call0_v166 : Ref sig .tc := ⟨.hbm, 755, rfl⟩
abbrev main_call2_call0_v167 : Ref sig .tc := ⟨.hbm, 756, rfl⟩
abbrev main_call2_call0_v168 : Ref sig .tc := ⟨.hbm, 757, rfl⟩
abbrev main_call2_call0_v169 : Ref sig .tc := ⟨.hbm, 758, rfl⟩
abbrev main_call2_call0_v170 : Ref sig .tc := ⟨.hbm, 759, rfl⟩
abbrev main_call2_v19_0 : Ref sig .tc := ⟨.hbm, 760, rfl⟩
abbrev main_call2_call0_v172 : Ref sig .tc := ⟨.hbm, 761, rfl⟩
abbrev main_call2_call0_v173 : Ref sig .tc := ⟨.hbm, 762, rfl⟩
abbrev main_call2_call0_c_44 : Ref sig .tc := ⟨.hbm, 763, rfl⟩
abbrev main_call2_call0_v174 : Ref sig .tc := ⟨.hbm, 764, rfl⟩
abbrev main_call2_v19_1 : Ref sig .tc := ⟨.hbm, 765, rfl⟩
abbrev main_call2_v20 : Ref sig .tc := ⟨.hbm, 766, rfl⟩
abbrev main_call2_c_2 : Ref sig .tc := ⟨.hbm, 767, rfl⟩
abbrev main_call2_v21 : Ref sig .tc := ⟨.hbm, 768, rfl⟩
abbrev main_call2_v22 : Ref sig .tc := ⟨.hbm, 769, rfl⟩
abbrev main_call2_c_3 : Ref sig .tc := ⟨.hbm, 770, rfl⟩
abbrev main_call2_v23 : Ref sig .tc := ⟨.hbm, 771, rfl⟩
abbrev main_call2_v24 : Ref sig .tc := ⟨.hbm, 772, rfl⟩
abbrev main_call2_v25 : Ref sig .tc := ⟨.hbm, 773, rfl⟩
abbrev main_call2_cst : Ref sig .tc := ⟨.hbm, 774, rfl⟩
abbrev main_call2_v26 : Ref sig .tc := ⟨.hbm, 775, rfl⟩
abbrev main_call2_v27 : Ref sig .tc := ⟨.hbm, 776, rfl⟩
abbrev main_call2_v28 : Ref sig .tc := ⟨.hbm, 777, rfl⟩
abbrev main_call2_v29 : Ref sig .tc := ⟨.hbm, 778, rfl⟩
abbrev main_call2_v30 : Ref sig .tc := ⟨.hbm, 779, rfl⟩
abbrev main_call2_v31 : Ref sig .tc := ⟨.hbm, 780, rfl⟩
abbrev main_call2_v32 : Ref sig .tc := ⟨.hbm, 781, rfl⟩
abbrev main_call2_v33 : Ref sig .tc := ⟨.hbm, 782, rfl⟩
abbrev main_v15 : Ref sig .tc := ⟨.hbm, 783, rfl⟩
abbrev main_cst_6 : Ref sig .tc := ⟨.hbm, 784, rfl⟩
abbrev main_v16 : Ref sig .tc := ⟨.hbm, 785, rfl⟩
abbrev main_v17 : Ref sig .tc := ⟨.hbm, 786, rfl⟩
abbrev main_v18 : Ref sig .tc := ⟨.hbm, 787, rfl⟩
abbrev main_v19 : Ref sig .tc := ⟨.hbm, 788, rfl⟩
abbrev main_v20 : Ref sig .tc := ⟨.hbm, 789, rfl⟩
abbrev main_c_7 : Ref sig .tc := ⟨.hbm, 790, rfl⟩
abbrev main_v21 : Ref sig .tc := ⟨.hbm, 791, rfl⟩
abbrev main_v22 : Ref sig .tc := ⟨.hbm, 792, rfl⟩
abbrev main_v23 : Ref sig .tc := ⟨.hbm, 793, rfl⟩
abbrev main_v24 : Ref sig .tc := ⟨.hbm, 794, rfl⟩
abbrev main_v25 : Ref sig .tc := ⟨.hbm, 795, rfl⟩
abbrev main_v26 : Ref sig .tc := ⟨.hbm, 796, rfl⟩
abbrev main_c_8 : Ref sig .tc := ⟨.hbm, 797, rfl⟩
abbrev main_v27 : Ref sig .tc := ⟨.hbm, 798, rfl⟩
abbrev main_v28 : Ref sig .tc := ⟨.hbm, 799, rfl⟩
abbrev main_c_9 : Ref sig .tc := ⟨.hbm, 800, rfl⟩
abbrev main_v29 : Ref sig .tc := ⟨.hbm, 801, rfl⟩
abbrev main_v30 : Ref sig .tc := ⟨.hbm, 802, rfl⟩
abbrev main_v31 : Ref sig .tc := ⟨.hbm, 803, rfl⟩
abbrev main_v32 : Ref sig .tc := ⟨.hbm, 804, rfl⟩
abbrev main_c_10 : Ref sig .tc := ⟨.hbm, 805, rfl⟩
abbrev main_v33 : Ref sig .tc := ⟨.hbm, 806, rfl⟩
abbrev main_v34 : Ref sig .tc := ⟨.hbm, 807, rfl⟩
abbrev main_c_11 : Ref sig .tc := ⟨.hbm, 808, rfl⟩
abbrev main_v35 : Ref sig .tc := ⟨.hbm, 809, rfl⟩
abbrev main_v36 : Ref sig .tc := ⟨.hbm, 810, rfl⟩
abbrev main_v37 : Ref sig .tc := ⟨.hbm, 811, rfl⟩
abbrev main_v38 : Ref sig .tc := ⟨.hbm, 812, rfl⟩
abbrev main_v39 : Ref sig .tc := ⟨.hbm, 813, rfl⟩
abbrev main_v40 : Ref sig .tc := ⟨.hbm, 814, rfl⟩

abbrev nD : Nat := 1
abbrev τ : Topo := Topo.v7x

variable {F : FTy → Type} [FloatOps F]
-- ==== Proof.Tile.lean ====
/-
  The SparseCore call of the kernel: thirty-two tasks, one per vector subcore of the two SparseCores. Task `(c, s)` owns
  block `2 s + c` of the index list and of the result, 51200 words each. It copies its block of the list into its
  memory, gathers the words of the flat table that the list names, and copies them out to its block of the result.

  The table, the list and the result are arrays that the host code made, so everything here is over their contents
  `xf`, `idf` and `of`. The one thing asked of them is `InRange`: every word of the list names a word of the table.
  What comes out is `looked`: the result holds, at every position, the table at the listed word.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false from fun _ _ _ => rfl,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays and their blocks -/

abbrev xLoc (d : Dev nD) : Loc nD τ sig := (SparseCore.T d).loc main_v32
abbrev iLoc (d : Dev nD) : Loc nD τ sig := (SparseCore.T d).loc main_v31
abbrev oLoc (d : Dev nD) : Loc nD τ sig := (SparseCore.T d).loc main_v33

abbrev xV : Memref sig .scVector .hbm S1638400 .f32 := Memref.whole main_v32_scv
abbrev iV : Memref sig .scVector .hbm S1638400 .i32 := Memref.whole main_v31_scv
abbrev oV : Memref sig .scVector .hbm S1638400 .f32 := Memref.whole main_v33_scv
local notation "sV" => (Memref.whole Cert.KernelIdeal.cc0_scratch0 : Memref Cert.KernelIdeal.sig Kind.scVector Space.vmem Cert.KernelIdeal.S51200 EltTy.i32)
local notation "rV" => (Memref.whole Cert.KernelIdeal.cc0_scratch1 : Memref Cert.KernelIdeal.sig Kind.scVector Space.vmem Cert.KernelIdeal.S51200 EltTy.f32)

/-- The word of the table that a listed word names (kept inside the table by a remainder, which `InRange` makes idle). -/
def word (w : BitVec 32) : S1638400.Idx := fun a => ⟨w.toNat % S1638400.size a, Nat.mod_lt _ (by
  match a with
  | 0 => decide)⟩

theorem div32 : 32 ∣ S1638400.size 0 := ⟨51200, rfl⟩
abbrev block (k : Fin 32) : Rect S1638400 := Rect.part (s := S1638400) (a₀ := 0) div32 k
abbrev blockSet (k : Fin 32) : Finset S1638400.Idx := (block k).set

/-- The number of the block that task `(c, s)` owns. -/
def num (c : Fin 2) (s : Fin 16) : Fin 32 := ⟨2 * s.val + c.val, by omega⟩

/-- Tasks and blocks, one for one. -/
def numEquiv : Fin 2 × Fin 16 ≃ Fin 32 where
  toFun p := num p.1 p.2
  invFun k := (⟨k.val % 2, by omega⟩, ⟨k.val / 2, by omega⟩)
  left_inv p := by
    obtain ⟨c, s⟩ := p
    ext <;> simp only [num] <;> omega
  right_inv k := by ext; simp only [num]; omega

/-! ## Shares of the table: the full share halved five times -/

/-- Piece `i` of the `2 ^ n` pieces that halving the share `q` to depth `n` makes. -/
def piece : ℕ → PosShare TreeShare → ℕ → PosShare TreeShare
  | 0, q, _ => q
  | n + 1, q, i => piece n (if i % 2 = 0 then q.left else q.right) (i / 2)

/-- The numbers below `2 ^ (n + 1)` are the even and the odd ones. -/
def halfEquiv (n : ℕ) : Fin (2 ^ n) ⊕ Fin (2 ^ n) ≃ Fin (2 ^ (n + 1)) where
  toFun := Sum.elim (fun i => ⟨2 * i.val, by have := i.isLt; have := Nat.pow_succ (n := 2) (m := n); omega⟩)
    (fun i => ⟨2 * i.val + 1, by have := i.isLt; have := Nat.pow_succ (n := 2) (m := n); omega⟩)
  invFun k := if k.val % 2 = 0 then Sum.inl ⟨k.val / 2, by have := k.isLt; have := Nat.pow_succ (n := 2) (m := n); omega⟩
    else Sum.inr ⟨k.val / 2, by have := k.isLt; have := Nat.pow_succ (n := 2) (m := n); omega⟩
  left_inv i := by
    rcases i with i | i
    · have h : (2 * i.val) % 2 = 0 := by omega
      simp only [Sum.elim_inl, h, if_true]; congr 1; ext; show 2 * i.val / 2 = i.val; omega
    · have h : ¬ (2 * i.val + 1) % 2 = 0 := by omega
      simp only [Sum.elim_inr, h, if_false]; congr 1; ext; show (2 * i.val + 1) / 2 = i.val; omega
  right_inv k := by
    by_cases h : k.val % 2 = 0
    · simp only [h, if_true, Sum.elim_inl]; ext; show 2 * (k.val / 2) = k.val; omega
    · simp only [h, if_false, Sum.elim_inr]; ext; show 2 * (k.val / 2) + 1 = k.val; omega

theorem piece_even (n : ℕ) (q : PosShare TreeShare) (i : ℕ) : piece (n + 1) q (2 * i) = piece n q.left i := by
  have h : (2 * i) % 2 = 0 := by omega
  have h' : 2 * i / 2 = i := by omega
  show piece n (if (2 * i) % 2 = 0 then q.left else q.right) (2 * i / 2) = _
  rw [if_pos h, h']
theorem piece_odd (n : ℕ) (q : PosShare TreeShare) (i : ℕ) : piece (n + 1) q (2 * i + 1) = piece n q.right i := by
  have h : ¬ (2 * i + 1) % 2 = 0 := by omega
  have h' : (2 * i + 1) / 2 = i := by omega
  show piece n (if (2 * i + 1) % 2 = 0 then q.left else q.right) ((2 * i + 1) / 2) = _
  rw [if_neg h, h']

/-- A buffer held at a share is held at all the share's pieces at once. -/
theorem pointsTo_pieces {ℓ : Loc nD τ sig} (f : Buf (Elt F) ℓ) (n : ℕ) :
    ∀ q : PosShare TreeShare, (ℓ ↦{q} f : sProp 𝕄) = bigSep Finset.univ fun i : Fin (2 ^ n) => ℓ ↦{piece n q i.val} f := by
  induction n with
  | zero => exact fun q => (bigSep_univ_of_subsingleton (0 : Fin 1) (Φ := fun i : Fin (2 ^ 0) => (ℓ ↦{piece 0 q i.val} f : sProp 𝕄))).symm
  | succ n ih =>
    intro q
    rw [bigSep_univ_equiv (halfEquiv n) (fun i => (ℓ ↦{piece (n + 1) q i.val} f : sProp 𝕄)), bigSep_univ_sum]
    refine (BI.Entails.antisymm (pointsTo_share (PosShare.mem_left_op_right q)).1 (pointsTo_share (PosShare.mem_left_op_right q)).2).trans ?_
    rw [ih q.left, ih q.right]
    congr 1 <;> refine bigSep_congr fun i _ => ?_
    · exact congrArg (fun p => (ℓ ↦{p} f : sProp 𝕄)) (piece_even n q i.val).symm
    · exact congrArg (fun p => (ℓ ↦{p} f : sProp 𝕄)) (piece_odd n q i.val).symm

/-- Task `k`'s share of the table. -/
abbrev xq (k : Fin 32) : PosShare TreeShare := piece 5 fullShare k.val

/-! ## What the call carries -/

variable (xf : (d : Dev nD) → Buf (Elt F) (xLoc d)) (idf : (d : Dev nD) → Buf (Elt F) (iLoc d)) (of : (d : Dev nD) → Buf (Elt F) (oLoc d))

/-- Every listed word names a word of the table. -/
def InRange : Prop := ∀ (d : Dev nD) (j : S1638400.Idx), (show BitVec 32 from idf d j).toNat < 1638400

/-- The result: at every position the table at the listed word. -/
def looked (d : Dev nD) : Buf (Elt F) (oLoc d) := fun j => xf d (word (idf d j))

abbrev iBlk (d : Dev nD) (k : Fin 32) : sProp 𝕄 := iLoc d ↦[blockSet k]{fullShare} idf d
abbrev xShr (d : Dev nD) (k : Fin 32) : sProp 𝕄 := xLoc d ↦{xq k} xf d
abbrev oBlk (d : Dev nD) (k : Fin 32) (f : Buf (Elt F) (oLoc d)) : sProp 𝕄 := oLoc d ↦[blockSet k]{fullShare} f

/-- What task `k` is handed, the result's block at contents `f`. -/
abbrev task (d : Dev nD) (k : Fin 32) (f : Buf (Elt F) (oLoc d)) : sProp 𝕄 :=
  iprop(iBlk idf d k ∗ xShr xf d k ∗ oBlk d k f)

/-- The call carries to each SparseCore what its sixteen tasks need, and back the same with the result looked up. -/
def P : (K (F := F)).Pay (nD := nD) (Val := Elt F) (Name := ℕ) (U := UU) where
  st := fun q d c => match q with | 0 => bigSep Finset.univ fun s : Fin 16 => task xf idf d (num (Fin.cast nCore_zero c) s) (of d)
  dn := fun q d c => match q with | 0 => bigSep Finset.univ fun s : Fin 16 => task xf idf d (num (Fin.cast nCore_zero c) s) (looked xf idf d)
  go := fun q d c i => match q with | 0 => task xf idf d (num (Fin.cast nCore_zero c) (Fin.cast nSub_zero i)) (of d)
  td := fun q d c i => match q with | 0 => task xf idf d (num (Fin.cast nCore_zero c) (Fin.cast nSub_zero i)) (looked xf idf d)
  x := fun _ _ => iprop(emp)

instance P_storable : (P (F := F) xf idf of).IsStorable where
  st q d c := match q with
    | 0 => (inferInstance : BI.Storable (upEmb : UEmb _ 𝕄) (bigSep Finset.univ fun s : Fin 16 => task xf idf d (num (Fin.cast nCore_zero c) s) (of d)))
  dn q d c := match q with
    | 0 => (inferInstance : BI.Storable (upEmb : UEmb _ 𝕄) (bigSep Finset.univ fun s : Fin 16 => task xf idf d (num (Fin.cast nCore_zero c) s) (looked xf idf d)))
  go q d c i := match q with
    | 0 => (inferInstance : BI.Storable (upEmb : UEmb _ 𝕄) (task xf idf d (num (Fin.cast nCore_zero c) (Fin.cast nSub_zero i)) (of d)))
  td q d c i := match q with
    | 0 => (inferInstance : BI.Storable (upEmb : UEmb _ 𝕄) (task xf idf d (num (Fin.cast nCore_zero c) (Fin.cast nSub_zero i)) (looked xf idf d)))

/-! ## The arrays whole are their blocks and shares -/

theorem blocks_disjoint : ∀ i ∈ (Finset.univ : Finset (Fin 32)), ∀ j ∈ (Finset.univ : Finset (Fin 32)), i ≠ j → Disjoint (blockSet i) (blockSet j) :=
  fun _ _ _ _ h => Rect.part_disjoint div32 h
theorem blocks_cover : (Finset.univ : Finset (Fin 32)).biUnion blockSet = Finset.univ := Rect.biUnion_part div32

theorem iBlocks (d : Dev nD) (f : Buf (Elt F) (iLoc d)) :
    (iLoc d ↦{fullShare} f : sProp 𝕄) = bigSep Finset.univ fun k : Fin 32 => iLoc d ↦[blockSet k]{fullShare} f := by
  rw [← pointsTo_biUnion Finset.univ (ℓ := iLoc d) blockSet blocks_disjoint, blocks_cover]
theorem oBlocks (d : Dev nD) (f : Buf (Elt F) (oLoc d)) :
    (oLoc d ↦{fullShare} f : sProp 𝕄) = bigSep Finset.univ fun k : Fin 32 => oLoc d ↦[blockSet k]{fullShare} f := by
  rw [← pointsTo_biUnion Finset.univ (ℓ := oLoc d) blockSet blocks_disjoint, blocks_cover]
theorem xShares (d : Dev nD) (f : Buf (Elt F) (xLoc d)) :
    (xLoc d ↦{fullShare} f : sProp 𝕄) = bigSep Finset.univ fun k : Fin 32 => xLoc d ↦{xq k} f :=
  pointsTo_pieces f 5 fullShare

/-- The three arrays whole are what the thirty-two tasks are handed, core by core. -/
theorem tasks_eq (d : Dev nD) (f : Buf (Elt F) (oLoc d)) :
    (iprop((iLoc d ↦{fullShare} idf d) ∗ (xLoc d ↦{fullShare} xf d) ∗ oLoc d ↦{fullShare} f) : sProp 𝕄)
      = bigSep Finset.univ fun c : Fin 2 => bigSep Finset.univ fun s : Fin 16 => task xf idf d (num c s) f := by
  rw [iBlocks, xShares, oBlocks, ← bigSep_sep', ← bigSep_sep', bigSep_univ_equiv numEquiv, bigSep_univ_prod]
  rfl

/-! ## The task -/

section Task

variable [FloatOps F]
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the task's block. -/
abbrev nL (L : grid0.Coords) : Fin 32 := num (Fin.cast bound_zero (L 0)) (Fin.cast bound_one (L 1))

abbrev blockK (L : grid0.Coords) : Rect S1638400 := Rect.unit (s := S1638400) (k0_off1 L) S51200.size (k0_off1_inb L)
/-- The task's block of the list and of the result, and the table whole, as the task addresses them. -/
abbrev iBlkK (L : grid0.Coords) : Memref sig .scVector .hbm S51200 .i32 := iV.slice (blockK L) (fun _ => rfl)
abbrev oBlkK (L : grid0.Coords) : Memref sig .scVector .hbm S51200 .f32 := oV.slice (blockK L) (fun _ => rfl)
abbrev xAllK : Memref sig .scVector .hbm S1638400 .f32 := xV.slice (Rect.unit (s := S1638400) ![0] S1638400.size inb_S1638400_S1638400_0) (fun _ => rfl)

omit [FloatOps F] in
theorem blockK_eq : blockK L = block (nL L) := by
  unfold blockK block Rect.part Rect.block
  congr 1 <;> funext a
  · rw [k0_off1_eq]
    match a with
    | 0 =>
      have h : (nL L).val = 2 * (L 1).val + (L 0).val := rfl
      simp [Shape.partIx, Shape.partSize, h]; omega
  · match a with
    | 0 => simp [Shape.partSize]

omit [FloatOps F] in
theorem set_iBlkK : (iBlkK L).view.set = blockSet (nL L) := by
  show ((View.whole (main_v31_scv : Ref sig .scVector)).slice (blockK L)).set = _
  rw [View.set_slice, blockK_eq]; exact Finset.map_refl
omit [FloatOps F] in
theorem set_oBlkK : (oBlkK L).view.set = blockSet (nL L) := by
  show ((View.whole (main_v33_scv : Ref sig .scVector)).slice (blockK L)).set = _
  rw [View.set_slice, blockK_eq]; exact Finset.map_refl

omit [FloatOps F] in
theorem pts_iBlkK (f : Buf (Elt F) (iLoc d)) :
    ((iBlkK L).view.loc (V d (cV L) (jV L)) ↦[(iBlkK L).view.set]{fullShare} f : sProp 𝕄) = iLoc d ↦[blockSet (nL L)]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[blockSet (nL L)]{fullShare} f := by
  rw [set_oBlkK]

abbrev fetchCell : GSem nD τ sig := (V d (cV L) (jV L), .dma cc0_scoped0.sem)
abbrev gatherCell : GSem nD τ sig := (V d (cV L) (jV L), .dma cc0_scratch2.sem)
abbrev storeCell : GSem nD τ sig := (V d (cV L) (jV L), .dma cc0_scoped1.sem)

omit [FloatOps F] in
/-- The three semaphores of the task's copies are among the subcore's own. -/
theorem ownSems0_V :
    (ownSems0 (V d (cV L) (jV L)) : sProp 𝕄)
      = iprop(semVal (fetchCell d L) 0 ∗ semVal (gatherCell d L) 0 ∗ semVal (storeCell d L) 0
          ∗ bigSep ((((ownCells (V d (cV L) (jV L))).erase (fetchCell d L)).erase (gatherCell d L)).erase (storeCell d L)) fun g => semVal g 0) := by
  unfold SparseCore.Cfg.ownSems0
  rw [SparseCore.bigSep_erase' ((mem_ownCells (g := fetchCell d L)).mpr ⟨rfl, by
      show (SemLoc.dma cc0_scoped0.sem : SemLoc sig).isScoped .scVector = true; decide⟩),
    SparseCore.bigSep_erase' (Finset.mem_erase.mpr ⟨by simp [fetchCell, gatherCell]; decide, (mem_ownCells (g := gatherCell d L)).mpr ⟨rfl, by
      show (SemLoc.dma cc0_scratch2.sem : SemLoc sig).isScoped .scVector = true; decide⟩⟩),
    SparseCore.bigSep_erase' (Finset.mem_erase.mpr ⟨by simp [gatherCell, storeCell]; decide, Finset.mem_erase.mpr ⟨by simp [fetchCell, storeCell]; decide,
      (mem_ownCells (g := storeCell d L)).mpr ⟨rfl, by show (SemLoc.dma cc0_scoped1.sem : SemLoc sig).isScoped .scVector = true; decide⟩⟩⟩)]

omit [FloatOps F] in
set_option maxRecDepth 16384 in
/-- The list's and the gathered words' buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The words fetched into the list's buffer, read back: the task's block of the list. -/
theorem read_list (fs : Buf (Elt F) ((V d (cV L) (jV L)).loc cc0_scratch0)) (x : S51200.Idx) :
    (sV).view.read (Elt F) (View.write (Elt F) (sV).view fs ((iBlkK L).view.read (Elt F) (idf d)) Finset.univ) x = idf d ((iBlkK L).view.emb x) := by
  rw [View.write_whole_univ]
  simp only [Memref.view_whole, View.read_whole]
  exact (View.read_apply _ _).trans (cast_eq _ _)

omit [FloatOps F] in
/-- The offsets the gather reads are in range. -/
theorem list_inb (hin : InRange idf) (fs : Buf (Elt F) ((V d (cV L) (jV L)).loc cc0_scratch0)) (pay : S51200.Idx → Elt F .i32)
    (hpay : pay = (iBlkK L).view.read (Elt F) (idf d)) :
    ∀ x, ((sV).view.read (Elt F) (View.write (Elt F) (sV).view fs pay Finset.univ) x).toNat < S1638400.size gathers_S1638400_S51200.axis := by
  subst hpay; intro x
  rw [read_list]
  exact hin d _

omit [FloatOps F] in
/-- A gather of single words along the only axis: place `x` of the destination takes the source at the word listed there. -/
theorem gathers_val {n m : Fin 1 → ℕ} (hg : (⟨1, n⟩ : Shape).Gathers 0 ⟨1, m⟩) (lst : (⟨1, m⟩ : Shape).Idx → Elt F .i32)
    (hn : (⟨1, m⟩ : Shape).numel = (⟨1, m⟩ : Shape).size hg.axis') (h : ∀ x, (lst x).toNat < (⟨1, n⟩ : Shape).size hg.axis)
    (x : (⟨1, m⟩ : Shape).Idx) : (hg.idx (SparseCore.rows lst hn h) x 0).val = (lst x).toNat := by
  have hx : (⟨1, m⟩ : Shape).rowMajor.symm ((x hg.axis').cast hn.symm) = x := by
    rw [Equiv.symm_apply_eq]
    exact Fin.ext (Shape.rowMajor_val_one x).symm
  have e := Shape.Gathers.idx_axis hg (SparseCore.rows lst hn h) x
  refine (congrArg Fin.val e).trans ?_
  exact congrArg (fun y => (lst y).toNat) hx

omit [FloatOps F] in
/-- What the gather fetches for place `x` of the task's block: the table at the word that the list's place `x` names. -/
theorem gathered (hin : InRange idf) (lst : S51200.Idx → Elt F .i32) (hn : S51200.numel = S51200.size gathers_S1638400_S51200.axis')
    (h : ∀ x, (lst x).toNat < S1638400.size gathers_S1638400_S51200.axis) (hl : ∀ x, lst x = idf d ((iBlkK L).view.emb x)) (x : S51200.Idx) :
    SparseCore.gatherPayload gathers_S1638400_S51200 (xAllK.view.read (Elt F) (xf d)) (SparseCore.rows lst hn h) x
      = xf d (word (idf d ((iBlkK L).view.emb x))) := by
  have hv := gathers_val gathers_S1638400_S51200 lst hn h x
  unfold SparseCore.gatherPayload
  generalize gathers_S1638400_S51200.idx (SparseCore.rows lst hn h) x = y at hv ⊢
  refine (View.read_apply _ _).trans ((cast_eq _ _).trans (congrArg (xf d) ?_))
  funext a
  match a with
  | 0 =>
    apply Fin.ext
    refine Eq.trans ?_ (Nat.mod_eq_of_lt (hin d ((iBlkK L).view.emb x))).symm
    refine Eq.trans ?_ (hv.trans (congrArg BitVec.toNat (hl x)))
    show 0 + 1 * (y 0).val = _
    rw [Nat.one_mul, Nat.zero_add]

omit [FloatOps F] in
/-- The task's block of the result, once the gathered words are copied out to it, is the table looked up. -/
theorem stored (f : Buf (Elt F) (oLoc d)) (g : S51200.Idx → Elt F .f32) (hg : ∀ x, g x = xf d (word (idf d ((iBlkK L).view.emb x)))) :
    ∀ j ∈ (oBlkK L).view.set, (oBlkK L).view.writes (Elt F) f [⟨Rect.whole S51200, g⟩] j = looked xf idf d j := by
  intro j hj
  obtain ⟨x, -, rfl⟩ := Finset.mem_map.mp hj
  refine Eq.trans ?_ (hg x)
  refine Eq.trans ?_ (congrFun (View.read_writes_whole (oBlkK L).view f g) x)
  exact ((View.read_apply _ _).trans (cast_eq _ _)).symm

set_option maxHeartbeats 4000000 in
/-- The task on vector subcore `(L 0, L 1)` of device `d`. -/
theorem tile_body (hF : (K (F := F)).Facts) (hin : InRange idf) (O : CellTallies nD τ sig (HIx 1)) (W : Waits sig (HIx 1)) (hO : ∀ g, O g none = 0) :
    iprop(levAts (K (F := F)).L (K (F := F)).lev ∗ emp
        ∗ task xf idf d (nL L) (of d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L xV (Memref.isWhole_whole _) iV (Memref.isWhole_whole _) oV (Memref.isWhole_whole _)
            sV (Memref.isWhole_whole _) rV (Memref.isWhole_whole _) cc0_scratch2 cc0_scoped0 cc0_scoped1)
          fun _ => iprop(task xf idf d (nL L) (looked xf idf d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, Hr, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Hx' := (Entails.of_eq (show (xLoc d ↦{xq (nL L)} xf d : sProp 𝕄) = (xV).view.loc (V d (cV L) (jV L)) ↦{xq (nL L)} xf d from rfl)) $$ Hx
  ihave Hs' := (Entails.of_eq (show ((V d (cV L) (jV L)).loc cc0_scratch0 ↦{fullShare} fs : sProp 𝕄) = (sV).view.loc (V d (cV L) (jV L)) ↦{fullShare} fs from rfl)) $$ Hs
  sl_exec
  -- The gather: the task hands in its share of the table, the destination, the list fetched and the semaphore at zero.
  ihave Hxs := (pointsTo_split_subset (q := xq (nL L)) (f := xf d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  icases Hr with ⟨%fr, Hr⟩
  ihave Hr'' := (Entails.of_eq (show ((V d (cV L) (jV L)).loc cc0_scratch1 ↦{fullShare} fr : sProp 𝕄)
      = (rV).view.loc (V d (cV L) (jV L)) ↦[(rV).view.set]{fullShare} fr by rw [hrs])) $$ Hr
  ihave Hs'' := (Entails.of_eq (show ((sV).view.loc (V d (cV L) (jV L)) ↦{fullShare} View.write (Elt F) (sV).view fs (tile_body.sl.dma0 idf d L) Finset.univ : sProp 𝕄)
      = (sV).view.loc (V d (cV L) (jV L)) ↦[(sV).view.set]{fullShare} View.write (Elt F) (sV).view fs (tile_body.sl.dma0 idf d L) Finset.univ
      by rw [hss])) $$ Hs'
  have hcr : ∀ s' : Shape, sig.dmaCredit .scVector (Kind.scVector.table .vmem) (rV).view.buf s' .f32 = s'.numel * EltTy.f32.bits := fun _ => rfl
  iapply (SparseCore.wp_indirectGatherLocal countersEmb 𝒱₀ (V d (cV L) (jV L)) none (hg := gathers_S1638400_S51200) (default : HIx 1)
      (rV).view.dmaCredit (SparseCore.sum_rowCredit_eq_dmaCredit (rV) _ hcr) (by decide) (list_inb idf d L hin fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (nL L)) (f := xf d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  have hrd : ∀ g : S51200.Idx → Elt F .f32, ReadAs.same.apply ((rV).view.read (Elt F) g) = g := fun _ => rfl
  have hst := stored xf idf d L (of d) (tile_body.sl.dma0_1 xf idf d L hin fs fr) (fun x => by
    unfold tile_body.sl.dma0_1
    rw [View.write_whole_univ]
    refine Eq.trans (congrFun (hrd _) x) ?_
    exact gathered xf idf d L hin _ _ _ (read_list idf d L fs) x)
  isplitl [Hi' Hx' Ho']
  · isplitl [Hi']; · iapply (Entails.of_eq (pts_iBlkK (F := F) d L _)); iexact Hi'
    isplitl [Hx']; · iexact Hx'
    iapply (Entails.of_eq ((pointsTo_congr hst).trans (pts_oBlkK (F := F) d L _))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The task as the launch asks for it -/

/-- The task's coordinates, by SparseCore and subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : InRange idf) : (K (F := F)).TileObl (D (F := F)) 𝒱 (P xf idf of) v₀ 0 := by
  intro d c i O W hO _ _
  simp only [show (P xf idf of).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body xf idf of d (coordsV ⟨_, hci.1⟩ ⟨_, hci.2⟩) hF hin O W hO).trans (wp_mono frame _ _ fun _ => obl_post)

/-- Each SparseCore hands its sixteen tasks exactly what it was handed, and hands back what they bring. -/
theorem vecSplit : (K (F := F)).VecSplit' (P xf idf of) 0 := by
  intro d c
  show (bigSep Finset.univ fun s : Fin 16 => task xf idf d (num (Fin.cast nCore_zero c) s) (of d)) ⊢ |={Set.univ}=> iprop(
      (bigSep Finset.univ fun s : Fin 16 => task xf idf d (num (Fin.cast nCore_zero c) s) (of d))
      ∗ ((bigSep Finset.univ fun s : Fin 16 => task xf idf d (num (Fin.cast nCore_zero c) s) (looked xf idf d))
          -∗ bigSep Finset.univ fun s : Fin 16 => task xf idf d (num (Fin.cast nCore_zero c) s) (looked xf idf d)))
  iintro H; imodintro
  isplitl [H]; · iexact H
  iintro H; iexact H

end Task

end Cert.Proof.Tile

end
-- ==== Proof.Launch.lean ====
/-
  The kernel's program from launch to end: the host's line `A`, the SparseCore call, the host's line `B`. Every weakly fair
  run ends, with all counters at zero and every array of the host at its value by the host's operations, the call's result
  among them at the looked-up table (Tile.lean).
-/
module

public import proofs.«01_k».proof.Proof.Tile
public import Idealize.ShloMosaic.Lib.Pipeline.FrameTail

@[expose] public section

noncomputable section

namespace Cert.Proof.Launch

open Cert.KernelIdeal Cert.KernelIdeal.Gen Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after launchContents held)

variable {F : FTy → Type} [FloatOps F]

local notation "𝕄" => MT nD τ sig (HIx 1) (Elt F) ℕ UU ℕ

/-! ## The contents, step by step -/

section Contents

variable (A B : List (HloOp τ sig (Elt F))) (m : (ℓ : Loc nD τ sig) → Buf (Elt F) ℓ)

abbrev xRef : DevRef τ sig := Proc.devRef .tc main_v32
abbrev iRef : DevRef τ sig := Proc.devRef .tc main_v31
abbrev oRef : DevRef τ sig := Proc.devRef .tc main_v33

/-- The arrays when the call is made. -/
abbrev V₁ (d : Dev nD) : Valuation τ sig (Elt F) := after A (launchContents m d)
abbrev xf (d : Dev nD) : Buf (Elt F) (xLoc d) := V₁ A m d xRef
abbrev idf (d : Dev nD) : Buf (Elt F) (iLoc d) := V₁ A m d iRef
abbrev of (d : Dev nD) : Buf (Elt F) (oLoc d) := V₁ A m d oRef
/-- The arrays when it returns. -/
def V₂ (d : Dev nD) : Valuation τ sig (Elt F) := Function.update (V₁ A m d) oRef (looked (xf A m) (idf A m) d)
/-- The arrays at the end. -/
abbrev V₃ (d : Dev nD) : Valuation τ sig (Elt F) := after B (V₂ A m d)

end Contents

variable (A B : List (HloOp τ sig (Elt F))) (m : (ℓ : Loc nD τ sig) → Buf (Elt F) ℓ) (ρ : Dev nD → PrngReg)

/-! ## The launch element of the ghost state -/

theorem bigSep_none {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (xf A m) (idf A m) (of A m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) (xf A m) (idf A m) (of A m)).x q thr) = bigSep Finset.univ fun _ => iprop(emp) from
    bigSep_congr fun _ _ => bigSep_univ_of_subsingleton (0 : Fin 1), bigSep_none]
  iempintro

/-! ## @main on the TensorCore -/

/-- The three arrays of the call. -/
def three : Finset (DevRef τ sig) := {iRef, xRef, oRef}

theorem three_sub : three ⊆ Pipeline.ucRefs τ sig := by
  intro b hb
  have : b = iRef ∨ b = xRef ∨ b = oRef := by simpa [three] using hb
  rcases this with rfl | rfl | rfl <;> exact Pipeline.devRef_mem_ucRefs rfl

theorem ref_ne {r s : Ref sig .tc} (h : r ≠ s) : (Proc.devRef .tc r : DevRef τ sig) ≠ Proc.devRef .tc s :=
  fun e => h (Proc.devRef_injective _ e)

theorem held_three (d : Dev nD) (W : Valuation τ sig (Elt F)) :
    (held (d.tc : Thread nD τ) three W : sProp 𝕄) = iprop((iLoc d ↦{fullShare} W iRef) ∗ (xLoc d ↦{fullShare} W xRef) ∗ oLoc d ↦{fullShare} W oRef) := by
  unfold StableHlo.held three
  rw [SparseCore.bigSep_insert' (by
      simp only [Finset.mem_insert, Finset.mem_singleton, not_or]
      exact ⟨ref_ne (by decide), ref_ne (by decide)⟩),
    SparseCore.bigSep_insert' (by
      simp only [Finset.mem_singleton]
      exact ref_ne (by decide)), bigSep_singleton]

theorem st0_eq (d : Dev nD) : (bigSep Finset.univ fun c : Fin ((K (F := F)).nCore 0) => (P (xf A m) (idf A m) (of A m)).st 0 d c)
    = (held (d.tc : Thread nD τ) three (V₁ A m d) : sProp 𝕄) := by
  rw [held_three, tasks_eq (xf A m) (idf A m) d]; rfl

theorem V₂_o (d : Dev nD) : V₂ A m d oRef = looked (xf A m) (idf A m) d := Function.update_self _ _ _
theorem V₂_ne (d : Dev nD) {b : DevRef τ sig} (h : b ≠ oRef) : V₂ A m d b = V₁ A m d b := Function.update_of_ne h _ _

theorem dn0_eq (d : Dev nD) : (bigSep Finset.univ fun c : Fin ((K (F := F)).nCore 0) => (P (xf A m) (idf A m) (of A m)).dn 0 d c)
    = (held (d.tc : Thread nD τ) three (V₂ A m d) : sProp 𝕄) := by
  rw [held_three, V₂_o, V₂_ne A m d (ref_ne (by decide)), V₂_ne A m d (ref_ne (by decide)), tasks_eq (xf A m) (idf A m) d]; rfl

theorem rest_eq (d : Dev nD) : (held (d.tc : Thread nD τ) (Pipeline.ucRefs τ sig \ three) (V₁ A m d) : sProp 𝕄)
    = held (d.tc : Thread nD τ) (Pipeline.ucRefs τ sig \ three) (V₂ A m d) :=
  StableHlo.held_congr _ fun b hb => (V₂_ne A m d fun e => (Finset.mem_sdiff.mp hb).2 (by subst e; simp [three])).symm

abbrev FIN (d : Dev nD) : sProp 𝕄 := held (d.tc : Thread nD τ) (Pipeline.ucRefs τ sig) (V₃ A B m d)

theorem hmain (hmn : ∀ d, main (F := F) d = (seq A >>= fun _ => sc.run d 0 >>= fun _ => seq B))
    (hA : ∀ op ∈ A, op.bufs ⊆ Pipeline.ucRefs τ sig) (hAf : ∀ op ∈ A, op.fresh = ∅)
    (hB : ∀ op ∈ B, op.bufs ⊆ Pipeline.ucRefs τ sig) (hBf : ∀ op ∈ B, op.fresh = ∅)
    (κ : GSem nD τ sig → ℕ) (d : Dev nD) :
    iprop((K (F := F)).ctx EH (P (xf A m) (idf A m) (of A m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN A B m d ∗ (K (F := F)).tcEnd d) := by
  unfold SparseCore.Cfg.tcRes SparseCore.Cfg.tcEnd
  rw [hmn d, show (unscopedBufs d (fun b => m ((SparseCore.T d).loc b)) : sProp 𝕄) = held (d.tc : Thread nD τ) (Pipeline.ucRefs τ sig) (launchContents m d) from
    Pipeline.unscopedBufs_held d (launchContents m d)]
  iintro ⟨#Hctx, Hst, ⟨Hb, Hheld, Hts, -⟩, -⟩
  iapply (StableHlo.wp_seq 𝒱 none Set.univ d (Pipeline.ucRefs τ sig) _ A hA hAf (launchContents m d)) $$ [Hb Hheld]
  · isplitl [Hb] <;> iassumption
  iintro ⟨Hb, Hheld⟩
  ihave Hh := (Entails.of_eq (StableHlo.held_sub_split (d.tc : Thread nD τ) three_sub (V₁ A m d))) $$ Hheld
  icases Hh with ⟨Hthree, Hrest⟩
  rw [wp_bind]
  iapply ((K (F := F)).wp_run (D (F := F)) 𝒱 (EH := EH) (P := P (xf A m) (idf A m) (of A m)) κ d 0) $$ [Hst Hthree Hrest Hb Hts]
  isplitr; · iexact Hctx
  isplitl [Hst]; · iexact Hst
  isplitl [Hthree]
  · rw [st0_eq]; iexact Hthree
  iintro ⟨Hst, Hdn⟩
  ihave Hdn' := (Entails.of_eq (dn0_eq A m d)) $$ Hdn
  ihave Hr' := (Entails.of_eq (rest_eq A m d)) $$ Hrest
  ihave Hheld := (Entails.of_eq (StableHlo.held_sub_split (d.tc : Thread nD τ) three_sub (V₂ A m d)).symm) $$ [Hdn' Hr']
  · isplitl [Hdn'] <;> iassumption
  rw [show (seq (Λ := SparseCore.Sig (ΛP (F := F)) 1) (nD := nD) B) = (seq B >>= fun u => Pure.pure u) from (bind_pure _).symm]
  iapply (StableHlo.wp_seq 𝒱 none Set.univ d (Pipeline.ucRefs τ sig) (fun u => Pure.pure u) B hB hBf (V₂ A m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-- Every array of the host, at the end, at its value. -/
def fq (d : Dev nD) (s' : Phys nD τ sig (Elt F)) : Prop := ∀ b ∈ Pipeline.ucRefs τ sig, s'.mem.mem (d, b) = V₃ A B m d b

theorem hfin (d : Dev nD) (s' : Phys nD τ sig (Elt F)) : iprop(FIN A B m d ∗ SI s') ⊢ (⌜fq A B m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

/-- The kernel's program, over any two host lines that make it up. -/
theorem run [∀ e, Nonempty (Elt F e)] (hmn : ∀ d, main (F := F) d = (seq A >>= fun _ => sc.run d 0 >>= fun _ => seq B))
    (hA : ∀ op ∈ A, op.bufs ⊆ StableHlo.tcRefs τ sig) (hAf : ∀ op ∈ A, op.fresh = ∅)
    (hB : ∀ op ∈ B, op.bufs ⊆ StableHlo.tcRefs τ sig) (hBf : ∀ op ∈ B, op.fresh = ∅)
    (hin : InRange (idf A m)) :
    θ_run (Cert.KernelIdeal.defs (F := F)) (Cert.KernelIdeal.threads (F := F)) ⟨m, fun _ => 0, ρ⟩
      fun r => (∀ (d : Dev nD), ∀ b ∈ Pipeline.ucRefs τ sig, r.2.mem (d, b) = V₃ A B m d b) ∧ r.2.sem = fun _ => 0 :=
  SparseCore.Cfg.θ_run_sc_quiescent (K := K (F := F)) (D := D (F := F)) (𝒱 := 𝒱) (EH := EH) (P := P (xf A m) (idf A m) (of A m)) (A := ∅) facts v₀
    (fun q hq => match q with | 0 => nomatch hq)
    (fun q _ => match q with | 0 => tileObl (xf A m) (idf A m) (of A m) facts hin)
    (fun q _ => match q with | 0 => SparseCore.Cfg.VecSplit.of_plain (vecSplit (xf A m) (idf A m) (of A m)))
    m ρ main (fun _ => iprop(emp)) (FIN A B m) (u₀ (F := F)) (sep_elim_left.trans (hu₀ A m))
    (hmain A B m ρ hmn (fun op h => Pipeline.sub_ucRefs op (hA op h)) hAf (fun op h => Pipeline.sub_ucRefs op (hB op h)) hBf)
    (fq A B m) (hfin A B m) _ (fun _ h hz => ⟨h, hz⟩)

end Cert.Proof.Launch

end
-- ==== Proof.Pairs.lean ====
/-
  Two straight lines of host operations over two signatures, kept in step: operation by operation they compute the same function
  of buffers of the same number, so that equal contents of the numbered buffers stay equal (`Agree`), however long the lines and
  whatever they compute.
-/
module

public import Idealize.ShloMosaic.Lib.StableHlo.RunHlo
public import Idealize.ShloMosaic.Lib.StableHlo.RunRead

@[expose] public section

noncomputable section

namespace Cert.Proof.Pairs

open Idealize.ShloMosaic Idealize.SL.Sem
open Idealize.ShloMosaic.StableHlo

variable {τ τ' : Topo} {sig sig' : RefSig} {Val : EltTy → Type}

/-! ## Buffers of one number -/

/-- `r` and `r'` are device buffers of the same number, below `n`. -/
def Same (n : ℕ) (r : Ref sig .tc) (r' : Ref sig' .tc) : Prop :=
  r.space = .hbm ∧ r'.space = .hbm ∧ r.idx.val = r'.idx.val ∧ r.idx.val < n

theorem ref_eq {r s : Ref sig .tc} (hr : r.space = .hbm) (hs : s.space = .hbm) (h : r.idx.val = s.idx.val) : r = s := by
  obtain ⟨sp, i, hi⟩ := r
  obtain ⟨sp', j, hj⟩ := s
  cases hr; cases hs
  obtain rfl : i = j := Fin.ext h
  rfl

/-- Buffers of the same number hold the same. -/
def Agree (n : ℕ) (V : Valuation τ sig Val) (V' : Valuation τ' sig' Val) : Prop :=
  ∀ (r : Ref sig .tc) (r' : Ref sig' .tc), Same n r r' → HEq (V (Proc.devRef .tc r)) (V' (Proc.devRef .tc r'))

/-! ## One operation and its pair -/

/-- The operation runs on the TensorCore's references alone, determines what it writes, and writes buffers numbered from `lo` on. -/
def Plain (lo : ℕ) (op : HloOp τ sig Val) : Prop :=
  op.bufs ⊆ tcRefs τ sig ∧ op.fresh = ∅ ∧ ∀ b ∈ op.writes, ∃ r : Ref sig .tc, b = Proc.devRef .tc r ∧ r.space = .hbm ∧ lo ≤ r.idx.val

theorem Plain.mono {lo hi : ℕ} (h : lo ≤ hi) {op : HloOp τ sig Val} (s : Plain hi op) : Plain lo op :=
  ⟨s.1, s.2.1, fun b hb => let ⟨r, e, hs, hl⟩ := s.2.2 b hb; ⟨r, e, hs, h.trans hl⟩⟩

/-- `y` and `y'` are device buffers numbered `n`. -/
def At (n : ℕ) (y : Ref sig .tc) (y' : Ref sig' .tc) : Prop :=
  y.space = .hbm ∧ y'.space = .hbm ∧ y.idx.val = n ∧ y'.idx.val = n

/-- The two operations write the buffers numbered `n`, and bring these into agreement as well when those of a smaller number agree. -/
def Step (n : ℕ) (op : HloOp τ sig Val) (op' : HloOp τ' sig' Val) : Prop :=
  Plain n op ∧ Plain n op' ∧ ∀ V V', Agree n V V' → Agree (n + 1) (op.result V) (op'.result V')

theorem heq_app {A A' B B' : Type} (hA : A = A') (hB : B = B') {f : A → B} {f' : A' → B'} (hf : HEq f f') {a : A} {a' : A'}
    (ha : HEq a a') : HEq (f a) (f' a') := by
  subst hA hB; cases hf; cases ha; rfl

theorem heq_app₂ {A A' B B' C C' : Type} (hA : A = A') (hB : B = B') (hC : C = C') {f : A → B → C} {f' : A' → B' → C'} (hf : HEq f f')
    {a : A} {a' : A'} (ha : HEq a a') {b : B} {b' : B'} (hb : HEq b b') : HEq (f a b) (f' a' b') := by
  subst hA hB hC; cases hf; cases ha; cases hb; rfl

theorem heq_shapeCast {T T' U U' : BufTy} (hT : T = T') (hU : U = U') (he : T.elt = U.elt) (he' : T'.elt = U'.elt)
    (hn : T.shape.ShapeCasts U.shape) (hn' : T'.shape.ShapeCasts U'.shape) {a : T.Contents Val} {a' : T'.Contents Val} (ha : HEq a a') :
    HEq (show U.Contents Val from fun i => he ▸ shapeCast U.shape a hn i) (show U'.Contents Val from fun i => he' ▸ shapeCast U'.shape a' hn' i) := by
  subst hT hU; cases ha; rfl

/-- Two operations that each write one buffer, of the same number, and write the same there. -/
theorem step_of {n : ℕ} {op : HloOp τ sig Val} {op' : HloOp τ' sig' Val} {y : Ref sig .tc} {y' : Ref sig' .tc} (hy : At n y y')
    (hb : op.bufs ⊆ tcRefs τ sig) (hb' : op'.bufs ⊆ tcRefs τ' sig') (hf : op.fresh = ∅) (hf' : op'.fresh = ∅)
    (hw : op.writes = {Proc.devRef .tc y}) (hw' : op'.writes = {Proc.devRef .tc y'})
    (h : ∀ V V', Agree n V V' → HEq (op.result V (Proc.devRef .tc y)) (op'.result V' (Proc.devRef .tc y'))) : Step n op op' := by
  obtain ⟨hs, hs', hi, hi'⟩ := hy
  refine ⟨⟨hb, hf, fun b hm => ⟨y, ?_, hs, hi.ge⟩⟩, ⟨hb', hf', fun b hm => ⟨y', ?_, hs', hi'.ge⟩⟩, fun V V' hV r r' hr => ?_⟩
  · rw [hw] at hm; exact Finset.mem_singleton.mp hm
  · rw [hw'] at hm; exact Finset.mem_singleton.mp hm
  · obtain ⟨hr₁, hr₂, hr₃, hr₄⟩ := hr
    by_cases e : r.idx.val = n
    · obtain rfl : r = y := ref_eq hr₁ hs (e.trans hi.symm)
      obtain rfl : r' = y' := ref_eq hr₂ hs' (hr₃.symm.trans (e.trans hi'.symm))
      exact h V V' hV
    · rw [op.result_of_not_mem V (by rw [hw, Finset.mem_singleton]; exact fun c => e (Proc.devRef_injective _ c ▸ hi)),
        op'.result_of_not_mem V' (by rw [hw', Finset.mem_singleton]; exact fun c => e (hr₃.trans (Proc.devRef_injective _ c ▸ hi')))]
      exact hV r r' ⟨hr₁, hr₂, hr₃, by omega⟩

theorem sub₁ (y : Ref sig .tc) : ({Proc.devRef .tc y} : Finset (DevRef τ sig)) ⊆ tcRefs τ sig :=
  Finset.singleton_subset_iff.mpr (devRef_mem_tcRefs y)
theorem sub₂ (x y : Ref sig .tc) : ({Proc.devRef .tc x, Proc.devRef .tc y} : Finset (DevRef τ sig)) ⊆ tcRefs τ sig :=
  Finset.insert_subset (devRef_mem_tcRefs x) (sub₁ y)
theorem sub₃ (a x y : Ref sig .tc) : ({Proc.devRef .tc a, Proc.devRef .tc x, Proc.devRef .tc y} : Finset (DevRef τ sig)) ⊆ tcRefs τ sig :=
  Finset.insert_subset (devRef_mem_tcRefs a) (sub₂ x y)

variable {n i j : ℕ}

theorem step_nullary {y : Ref sig .tc} {y' : Ref sig' .tc} {v : y.ty.Contents Val} {v' : y'.ty.Contents Val} {hy hy'}
    (sy : At n y y') (hv : HEq v v') :
    Step n (nullary y v hy : HloOp τ sig Val) (nullary y' v' hy' : HloOp τ' sig' Val) :=
  step_of sy (sub₁ y) (sub₁ y') rfl rfl rfl rfl fun V V' _ => by
    rw [nullary_result, nullary_result]; exact hv

theorem step_unary {x y : Ref sig .tc} {x' y' : Ref sig' .tc} {f : x.ty.Contents Val → y.ty.Contents Val}
    {f' : x'.ty.Contents Val → y'.ty.Contents Val} {hx hy hx' hy'} (sx : Same n x x') (sy : At n y y')
    (tx : x.ty = x'.ty) (ty : y.ty = y'.ty) (hf : HEq f f') :
    Step n (unary x y f hx hy : HloOp τ sig Val) (unary x' y' f' hx' hy' : HloOp τ' sig' Val) :=
  step_of sy (sub₂ x y) (sub₂ x' y') rfl rfl rfl rfl fun V V' hV => by
    rw [unary_result, unary_result]
    exact heq_app (congrArg (fun T : BufTy => T.Contents Val) tx) (congrArg (fun T : BufTy => T.Contents Val) ty) hf (hV x x' sx)

theorem step_binary {a b y : Ref sig .tc} {a' b' y' : Ref sig' .tc} {f : a.ty.Contents Val → b.ty.Contents Val → y.ty.Contents Val}
    {f' : a'.ty.Contents Val → b'.ty.Contents Val → y'.ty.Contents Val} {ha hb hy ha' hb' hy'} (sa : Same n a a') (sb : Same n b b')
    (sy : At n y y') (ta : a.ty = a'.ty) (tb : b.ty = b'.ty) (ty : y.ty = y'.ty) (hf : HEq f f') :
    Step n (binary a b y f ha hb hy : HloOp τ sig Val) (binary a' b' y' f' ha' hb' hy' : HloOp τ' sig' Val) :=
  step_of sy (sub₃ a b y) (sub₃ a' b' y') rfl rfl rfl rfl fun V V' hV => by
    rw [binary_result, binary_result]
    exact heq_app₂ (congrArg (fun T : BufTy => T.Contents Val) ta) (congrArg (fun T : BufTy => T.Contents Val) tb)
      (congrArg (fun T : BufTy => T.Contents Val) ty) hf (hV a a' sa) (hV b b' sb)

theorem step_reshape {x y : Ref sig .tc} {x' y' : Ref sig' .tc} {he hn hx hy he' hn' hx' hy'} (sx : Same n x x') (sy : At n y y') (tx : x.ty = x'.ty) (ty : y.ty = y'.ty) :
    Step n (reshape x y he hn hx hy : HloOp τ sig Val) (reshape x' y' he' hn' hx' hy' : HloOp τ' sig' Val) :=
  step_of sy (sub₂ x y) (sub₂ x' y') rfl rfl rfl rfl fun V V' hV => by
    rw [reshape_result, reshape_result]
    exact heq_shapeCast tx ty he he' hn hn' (hV x x' sx)

/-! ## Two lines -/

/-- The two lines go in step, writing the buffers numbered from `i` to before `j` one after another. -/
inductive Steps : ℕ → ℕ → List (HloOp τ sig Val) → List (HloOp τ' sig' Val) → Prop
  | nil {i : ℕ} : Steps i i [] []
  | cons {i j : ℕ} {op op' l l'} (h : Step i op op') (t : Steps (i + 1) j l l') : Steps i j (op :: l) (op' :: l')

theorem Steps.append {l : List (HloOp τ sig Val)} {l' : List (HloOp τ' sig' Val)} (h : Steps i n l l') :
    ∀ {m m'}, Steps n j m m' → Steps i j (l ++ m) (l' ++ m') := by
  induction h with
  | nil => exact fun k => k
  | cons h _ ih => exact fun k => .cons h (ih k)

theorem Steps.agree {l : List (HloOp τ sig Val)} {l' : List (HloOp τ' sig' Val)} (h : Steps i j l l') :
    ∀ {V V'}, Agree i V V' → Agree j (after l V) (after l' V') := by
  induction h with
  | nil => exact fun h => h
  | cons h _ ih => exact fun hV => ih (h.2.2 _ _ hV)

theorem Steps.plain {l : List (HloOp τ sig Val)} {l' : List (HloOp τ' sig' Val)} (h : Steps i j l l') :
    (∀ op ∈ l, Plain i op) ∧ ∀ op ∈ l', Plain i op := by
  induction h with
  | nil => exact ⟨fun _ h => (List.not_mem_nil h).elim, fun _ h => (List.not_mem_nil h).elim⟩
  | cons h _ ih =>
    exact ⟨List.forall_mem_cons.mpr ⟨h.1, fun op ho => (ih.1 op ho).mono (Nat.le_succ _)⟩,
      List.forall_mem_cons.mpr ⟨h.2.1, fun op ho => (ih.2 op ho).mono (Nat.le_succ _)⟩⟩

/-- A line followed by another. -/
theorem after_join (l m : List (HloOp τ sig Val)) : ∀ V, after (l ++ m) V = after m (after l V) := by
  induction l with
  | nil => exact fun _ => rfl
  | cons op l ih => exact fun V => ih (op.result V)

/-- A buffer numbered below `lo` keeps its contents. -/
theorem after_below {lo : ℕ} {l : List (HloOp τ sig Val)} (h : ∀ op ∈ l, Plain lo op) {r : Ref sig .tc} (hr : r.space = .hbm) (hlt : r.idx.val < lo)
    (V : Valuation τ sig Val) : after l V (Proc.devRef .tc r) = V (Proc.devRef .tc r) :=
  after_of_forall_not_mem l V fun op ho hm => by
    obtain ⟨s, e, hs, hle⟩ := (h op ho).2.2 _ hm
    have := Proc.devRef_injective _ e
    subst this
    exact absurd hlt (Nat.not_lt.mpr hle)

/-! ## The lines of two programs -/

variable {nD nD' : ℕ} {Λ Λ' : Labels}

theorem seq_call {p k : Prog (TpuEff nD τ sig Val Λ .tc) PUnit} {l m : List (HloOp τ sig Val)} (hp : IsSeq p l) (hk : IsSeq k m) :
    IsSeq (p >>= fun _ => k) (l ++ m) := by
  unfold IsSeq at hp hk ⊢
  rw [hp, hk, seq_append]

/-- Two programs are lines of operations that go in step. -/
def Lines (i j : ℕ) (p : Prog (TpuEff nD τ sig Val Λ .tc) PUnit) (p' : Prog (TpuEff nD' τ' sig' Val Λ' .tc) PUnit) : Prop :=
  ∃ (l : List (HloOp τ sig Val)) (l' : List (HloOp τ' sig' Val)), Steps i j l l' ∧ IsSeq p l ∧ IsSeq p' l'

theorem Lines.nil : Lines i i (pure ⟨⟩ : Prog (TpuEff nD τ sig Val Λ .tc) PUnit) (pure ⟨⟩ : Prog (TpuEff nD' τ' sig' Val Λ' .tc) PUnit) :=
  ⟨[], [], .nil, .nil, .nil⟩

theorem Lines.cons {op : HloOp τ sig Val} {op' : HloOp τ' sig' Val} {k : Prog (TpuEff nD τ sig Val Λ .tc) PUnit}
    {k' : Prog (TpuEff nD' τ' sig' Val Λ' .tc) PUnit} (h : Step i op op') (hk : Lines (i + 1) j k k') :
    Lines i j ((hlo rfl op fun _ => .ret (⟨⟩ : PUnit)) >>= fun _ => k) ((hlo rfl op' fun _ => .ret (⟨⟩ : PUnit)) >>= fun _ => k') := by
  obtain ⟨l, l', hs, h₁, h₂⟩ := hk
  exact ⟨op :: l, op' :: l', .cons h hs, h₁.cons, h₂.cons⟩

theorem Lines.call {p k : Prog (TpuEff nD τ sig Val Λ .tc) PUnit} {p' k' : Prog (TpuEff nD' τ' sig' Val Λ' .tc) PUnit}
    (hp : Lines i n p p') (hk : Lines n j k k') : Lines i j (p >>= fun _ => k) (p' >>= fun _ => k') := by
  obtain ⟨l, l', hs, h₁, h₂⟩ := hp
  obtain ⟨m, m', hs', h₃, h₄⟩ := hk
  exact ⟨l ++ m, l' ++ m', hs.append hs', seq_call h₁ h₃, seq_call h₂ h₄⟩

end Cert.Proof.Pairs

end
-- ==== Proof.Lists.lean ====
/-
  The operations of the two programs that the proof reads one by one: the second uniform draw around its hash, and what follows the
  draws in the kernel's program and in the reference's.
-/
module

public import proofs.«01_k».proof.Defs
public import Idealize.ShloMosaic.Lib.StableHlo.RunRead
public import proofs.«01_k».proof.Proof.Gen.KernelIdeal
public import proofs.«01_k».proof.Proof.Gen.ReferenceIdeal

@[expose] public section

noncomputable section

open Idealize.ShloMosaic Idealize.SL.Sem
open Idealize.ShloMosaic.StableHlo

namespace Cert.Proof.Lists

variable {F : FTy → Type} [FloatOps F]

namespace K

open Cert.KernelIdeal Cert.KernelIdeal.Facts₀

/-- The second draw up to its hash: its two ends, 0 and 1, and the counters. -/
def pre : List (HloOp τ sig (Elt F)) :=
  [nullary main_cst_4 (constant S_ .f32 0x00000000#32),
    nullary main_cst_5 (constant S_ .f32 0x3F800000#32),
    TRef.unary (.of main_cst_4) main_call2.v0 id,
    TRef.unary (.of main_cst_5) main_call2.v1 id,
    TRef.unary main_call2.v0 main_call2.v2 (broadcastInDim S1x1 ![] bcast_S_S1x1),
    TRef.unary main_call2.v1 main_call2.v3 (broadcastInDim S1x1 ![] bcast_S_S1x1),
    TRef.unary (.of main_v11 : TRef sig ⟨S2, .i32⟩) main_call2.v4 (extractStridedSlice S1 ![0] · slices_S2_S1_0),
    TRef.reshape main_call2.v4 main_call2.v5 (rfl : (.i32 : EltTy) = .i32) shapeCasts_S1_S_,
    TRef.unary (.of main_v11 : TRef sig ⟨S2, .i32⟩) main_call2.v6 (extractStridedSlice S1 ![1] · slices_S2_S1_1),
    TRef.reshape main_call2.v6 main_call2.v7 (rfl : (.i32 : EltTy) = .i32) shapeCasts_S1_S_,
    TRef.nullary main_call2.v8 (iotaInDim S16384x100 64 0),
    TRef.nullary main_call2.v9 (iotaInDim S16384x100 64 1),
    TRef.nullary main_call2.c (constantI S_ 64 100#64),
    TRef.unary main_call2.c main_call2.v10 (broadcastInDim S16384x100 ![] bcast_S_S16384x100),
    TRef.binary main_call2.v10 main_call2.v8 main_call2.v11 muli,
    TRef.nullary main_call2.c_0 (constantI S_ 64 1#64),
    TRef.unary main_call2.c_0 main_call2.v12 (broadcastInDim S16384x100 ![] bcast_S_S16384x100),
    TRef.binary main_call2.v12 main_call2.v9 main_call2.v13 muli,
    TRef.binary main_call2.v11 main_call2.v13 main_call2.v14 addi,
    TRef.nullary main_call2.c_1 (constantI S_ 64 32#64),
    TRef.unary main_call2.c_1 main_call2.v15 (broadcastInDim S16384x100 ![] bcast_S_S16384x100),
    TRef.binary main_call2.v14 main_call2.v15 main_call2.v16 Host.shrui,
    TRef.unary main_call2.v14 main_call2.v17 (trunci 32 · natLt_32_64),
    TRef.unary main_call2.v16 main_call2.v18 (trunci 32 · natLt_32_64)]

/-- The second draw after its hash: the words' upper bits made into numbers from 1 to 2, less 1, between the two ends. -/
def post : List (HloOp τ sig (Elt F)) :=
  [TRef.binary main_call2.call0.v171 main_call2.call0.v175 main_call2.v20 xori,
    TRef.nullary main_call2.c_2 (constantI S_ 32 9#32),
    TRef.unary main_call2.c_2 main_call2.v21 (broadcastInDim S16384x100 ![] bcast_S_S16384x100),
    TRef.binary main_call2.v20 main_call2.v21 main_call2.v22 Host.shrui,
    TRef.nullary main_call2.c_3 (constantI S_ 32 1065353216#32),
    TRef.unary main_call2.c_3 main_call2.v23 (broadcastInDim S16384x100 ![] bcast_S_S16384x100),
    TRef.binary main_call2.v22 main_call2.v23 main_call2.v24 ori,
    TRef.unary main_call2.v24 main_call2.v25 (bitcastToFloat .f32),
    TRef.nullary main_call2.cst (constant S_ .f32 0x3F800000#32),
    TRef.unary main_call2.cst main_call2.v26 (broadcastInDim S16384x100 ![] bcast_S_S16384x100),
    TRef.binary main_call2.v25 main_call2.v26 main_call2.v27 subf,
    TRef.binary main_call2.v3 main_call2.v2 main_call2.v28 subf,
    TRef.unary main_call2.v28 main_call2.v29 (broadcastInDim S16384x100 ![0, 1] bcast_S1x1_S16384x100_0_1),
    TRef.binary main_call2.v27 main_call2.v29 main_call2.v30 mulf,
    TRef.unary main_call2.v2 main_call2.v31 (broadcastInDim S16384x100 ![0, 1] bcast_S1x1_S16384x100_0_1),
    TRef.binary main_call2.v30 main_call2.v31 main_call2.v32 addf,
    TRef.unary main_call2.v2 main_call2.v33 (broadcastInDim S16384x100 ![0, 1] bcast_S1x1_S16384x100_0_1),
    TRef.binary main_call2.v33 main_call2.v32 main_call2.v34 maximumf]

/-- What follows the draws, up to the call: the places. -/
def tail : List (HloOp τ sig (Elt F)) :=
  [nullary main_cst_6 (constant S_ .f32 0x46800000#32),
    unary main_cst_6 main_v16 (broadcastInDim S16384x100 ![] bcast_S_S16384x100 : (⟨S_, .f32⟩ : BufTy).Contents (Elt F) → (⟨S16384x100, .f32⟩ : BufTy).Contents (Elt F)),
    binary main_v15 main_v16 main_v17 (mulf : (⟨S16384x100, .f32⟩ : BufTy).Contents (Elt F) → (⟨S16384x100, .f32⟩ : BufTy).Contents (Elt F) → (⟨S16384x100, .f32⟩ : BufTy).Contents (Elt F)),
    unary main_v17 main_v18 (Host.floor : (⟨S16384x100, .f32⟩ : BufTy).Contents (Elt F) → (⟨S16384x100, .f32⟩ : BufTy).Contents (Elt F)),
    unary main_v18 main_v19 (fptosi 32 : (⟨S16384x100, .f32⟩ : BufTy).Contents (Elt F) → (⟨S16384x100, .i32⟩ : BufTy).Contents (Elt F)),
    unary main_v14 main_v20 ((extui 32 · natLt_1_32) : (⟨S16384x100, .i1⟩ : BufTy).Contents (Elt F) → (⟨S16384x100, .i32⟩ : BufTy).Contents (Elt F)),
    nullary main_c_7 (constantI S_ 32 100#32),
    unary main_c_7 main_v21 (broadcastInDim S16384x100 ![] bcast_S_S16384x100 : (⟨S_, .i32⟩ : BufTy).Contents (Elt F) → (⟨S16384x100, .i32⟩ : BufTy).Contents (Elt F)),
    binary main_v20 main_v21 main_v22 (muli : (⟨S16384x100, .i32⟩ : BufTy).Contents (Elt F) → (⟨S16384x100, .i32⟩ : BufTy).Contents (Elt F) → (⟨S16384x100, .i32⟩ : BufTy).Contents (Elt F)),
    binary main_v19 main_v22 main_v23 (muli : (⟨S16384x100, .i32⟩ : BufTy).Contents (Elt F) → (⟨S16384x100, .i32⟩ : BufTy).Contents (Elt F) → (⟨S16384x100, .i32⟩ : BufTy).Contents (Elt F)),
    reshape main_v23 main_v24 (rfl : (.i32 : EltTy) = .i32) shapeCasts_S16384x100_S1638400,
    nullary main_v25 (iotaInDim S1638400 32 0),
    binary main_v25 main_v24 main_v26 (addi : (⟨S1638400, .i32⟩ : BufTy).Contents (Elt F) → (⟨S1638400, .i32⟩ : BufTy).Contents (Elt F) → (⟨S1638400, .i32⟩ : BufTy).Contents (Elt F)),
    nullary main_c_8 (constantI S_ 32 1638400#32),
    unary main_c_8 main_v27 (broadcastInDim S1638400 ![] bcast_S_S1638400 : (⟨S_, .i32⟩ : BufTy).Contents (Elt F) → (⟨S1638400, .i32⟩ : BufTy).Contents (Elt F)),
    binary main_v26 main_v27 main_v28 (cmpi .sge : (⟨S1638400, .i32⟩ : BufTy).Contents (Elt F) → (⟨S1638400, .i32⟩ : BufTy).Contents (Elt F) → (⟨S1638400, .i1⟩ : BufTy).Contents (Elt F)),
    nullary main_c_9 (constantI S_ 32 1638400#32),
    unary main_c_9 main_v29 (broadcastInDim S1638400 ![] bcast_S_S1638400 : (⟨S_, .i32⟩ : BufTy).Contents (Elt F) → (⟨S1638400, .i32⟩ : BufTy).Contents (Elt F)),
    binary main_v26 main_v29 main_v30 (subi : (⟨S1638400, .i32⟩ : BufTy).Contents (Elt F) → (⟨S1638400, .i32⟩ : BufTy).Contents (Elt F) → (⟨S1638400, .i32⟩ : BufTy).Contents (Elt F)),
    TRef.ternary (.of main_v28) (.of main_v30) (.of main_v26) main_call3.v0 select,
    reshape main_arg0 main_v32 (rfl : (.f32 : EltTy) = .f32) shapeCasts_S16384x100_S1638400]

/-- What follows the call: the rows given back as the table's shape. -/
def back : List (HloOp τ sig (Elt F)) :=
  [reshape main_v33 main_v34 (rfl : (.f32 : EltTy) = .f32) shapeCasts_S1638400_S16384x100]

end K

namespace R

open Cert.ReferenceIdeal Cert.ReferenceIdeal.Facts₀

/-- What follows the draws in the reference: the places and the reading. -/
def tail : List (HloOp τ sig (Elt F)) :=
  [nullary main_cst_6 (constant S_ .f32 0x46800000#32),
    unary main_cst_6 main_v16 (broadcastInDim S16384x100 ![] bcast_S_S16384x100 : (⟨S_, .f32⟩ : BufTy).Contents (Elt F) → (⟨S16384x100, .f32⟩ : BufTy).Contents (Elt F)),
    binary main_v15 main_v16 main_v17 (mulf : (⟨S16384x100, .f32⟩ : BufTy).Contents (Elt F) → (⟨S16384x100, .f32⟩ : BufTy).Contents (Elt F) → (⟨S16384x100, .f32⟩ : BufTy).Contents (Elt F)),
    unary main_v17 main_v18 (Host.floor : (⟨S16384x100, .f32⟩ : BufTy).Contents (Elt F) → (⟨S16384x100, .f32⟩ : BufTy).Contents (Elt F)),
    unary main_v18 main_v19 (fptosi 32 : (⟨S16384x100, .f32⟩ : BufTy).Contents (Elt F) → (⟨S16384x100, .i32⟩ : BufTy).Contents (Elt F)),
    unary main_v14 main_v20 ((extui 32 · natLt_1_32) : (⟨S16384x100, .i1⟩ : BufTy).Contents (Elt F) → (⟨S16384x100, .i32⟩ : BufTy).Contents (Elt F)),
    nullary main_c_7 (constantI S_ 32 100#32),
    unary main_c_7 main_v21 (broadcastInDim S16384x100 ![] bcast_S_S16384x100 : (⟨S_, .i32⟩ : BufTy).Contents (Elt F) → (⟨S16384x100, .i32⟩ : BufTy).Contents (Elt F)),
    binary main_v20 main_v21 main_v22 (muli : (⟨S16384x100, .i32⟩ : BufTy).Contents (Elt F) → (⟨S16384x100, .i32⟩ : BufTy).Contents (Elt F) → (⟨S16384x100, .i32⟩ : BufTy).Contents (Elt F)),
    binary main_v19 main_v22 main_v23 (muli : (⟨S16384x100, .i32⟩ : BufTy).Contents (Elt F) → (⟨S16384x100, .i32⟩ : BufTy).Contents (Elt F) → (⟨S16384x100, .i32⟩ : BufTy).Contents (Elt F)),
    reshape main_v23 main_v24 (rfl : (.i32 : EltTy) = .i32) shapeCasts_S16384x100_S1638400,
    nullary main_v25 (iotaInDim S1638400 32 0),
    binary main_v25 main_v24 main_v26 (addi : (⟨S1638400, .i32⟩ : BufTy).Contents (Elt F) → (⟨S1638400, .i32⟩ : BufTy).Contents (Elt F) → (⟨S1638400, .i32⟩ : BufTy).Contents (Elt F)),
    nullary main_c_8 (constantI S_ 32 1638400#32),
    unary main_c_8 main_v27 (broadcastInDim S1638400 ![] bcast_S_S1638400 : (⟨S_, .i32⟩ : BufTy).Contents (Elt F) → (⟨S1638400, .i32⟩ : BufTy).Contents (Elt F)),
    binary main_v26 main_v27 main_v28 (cmpi .sge : (⟨S1638400, .i32⟩ : BufTy).Contents (Elt F) → (⟨S1638400, .i32⟩ : BufTy).Contents (Elt F) → (⟨S1638400, .i1⟩ : BufTy).Contents (Elt F)),
    nullary main_c_9 (constantI S_ 32 1638400#32),
    unary main_c_9 main_v29 (broadcastInDim S1638400 ![] bcast_S_S1638400 : (⟨S_, .i32⟩ : BufTy).Contents (Elt F) → (⟨S1638400, .i32⟩ : BufTy).Contents (Elt F)),
    binary main_v26 main_v29 main_v30 (subi : (⟨S1638400, .i32⟩ : BufTy).Contents (Elt F) → (⟨S1638400, .i32⟩ : BufTy).Contents (Elt F) → (⟨S1638400, .i32⟩ : BufTy).Contents (Elt F)),
    TRef.ternary (.of main_v28) (.of main_v30) (.of main_v26) main_call3.v0 select,
    reshape main_arg0 main_v32 (rfl : (.f32 : EltTy) = .f32) shapeCasts_S16384x100_S1638400,
    nullary main_c_10 (constantI S_ 32 0#32),
    unary main_c_10 main_v33 (broadcastInDim S1638400 ![] bcast_S_S1638400 : (⟨S_, .i32⟩ : BufTy).Contents (Elt F) → (⟨S1638400, .i32⟩ : BufTy).Contents (Elt F)),
    binary main_v31 main_v33 main_v34 (cmpi .slt : (⟨S1638400, .i32⟩ : BufTy).Contents (Elt F) → (⟨S1638400, .i32⟩ : BufTy).Contents (Elt F) → (⟨S1638400, .i1⟩ : BufTy).Contents (Elt F)),
    nullary main_c_11 (constantI S_ 32 1638400#32),
    unary main_c_11 main_v35 (broadcastInDim S1638400 ![] bcast_S_S1638400 : (⟨S_, .i32⟩ : BufTy).Contents (Elt F) → (⟨S1638400, .i32⟩ : BufTy).Contents (Elt F)),
    binary main_v31 main_v35 main_v36 (addi : (⟨S1638400, .i32⟩ : BufTy).Contents (Elt F) → (⟨S1638400, .i32⟩ : BufTy).Contents (Elt F) → (⟨S1638400, .i32⟩ : BufTy).Contents (Elt F)),
    ternary main_v34 main_v36 main_v31 main_v37 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v37 main_v38 (broadcastInDim S1638400x1 ![0] bcast_S1638400_S1638400x1_0 : (⟨S1638400, .i32⟩ : BufTy).Contents (Elt F) → (⟨S1638400x1, .i32⟩ : BufTy).Contents (Elt F)),
    binary main_v32 main_v38 main_v39 ((fun x i => Host.gather gather_S1638400_S1638400x1_S1638400_n_0_n_n_0_1_1 x i) : (⟨S1638400, .f32⟩ : BufTy).Contents (Elt F) → (⟨S1638400x1, .i32⟩ : BufTy).Contents (Elt F) → (⟨S1638400, .f32⟩ : BufTy).Contents (Elt F)),
    reshape main_v39 main_v40 (rfl : (.f32 : EltTy) = .f32) shapeCasts_S1638400_S16384x100]

end R

end Cert.Proof.Lists

end
-- ==== Proof.Draw.lean ====
/-
  What the second uniform draw leaves, of the words its hash gives it.
-/
module

public import proofs.«01_k».proof.Defs
public import proofs.«01_k».proof.Proof.Pairs
public import proofs.«01_k».proof.Proof.Lists

@[expose] public section

noncomputable section

namespace Cert.Proof.Draw

open Idealize.ShloMosaic Idealize.SL.Sem
open Idealize.ShloMosaic.StableHlo
open Cert.KernelIdeal Cert.Proof.Pairs

variable {F : FTy → Type} [FloatOps F]

set_option maxRecDepth 8192

/-- What the second draw leaves, of the words `w` that its hash gives: the upper 23 bits of each as a number from 1 to 2, less 1, drawn
    out over the span from 0 to 1 and kept from below 0. -/
def draw (w : (⟨S16384x100, .i32⟩ : BufTy).Contents (Elt F)) : (⟨S16384x100, .f32⟩ : BufTy).Contents (Elt F) :=
  let lo : (⟨S1x1, .f32⟩ : BufTy).Contents (Elt F) :=
    broadcastInDim S1x1 ![] Facts₀.bcast_S_S1x1 (constant S_ .f32 0x00000000#32)
  let hi : (⟨S1x1, .f32⟩ : BufTy).Contents (Elt F) :=
    broadcastInDim S1x1 ![] Facts₀.bcast_S_S1x1 (constant S_ .f32 0x3F800000#32)
  let wide (a : (⟨S1x1, .f32⟩ : BufTy).Contents (Elt F)) : (⟨S16384x100, .f32⟩ : BufTy).Contents (Elt F) :=
    broadcastInDim S16384x100 ![0, 1] Facts₀.bcast_S1x1_S16384x100_0_1 a
  let nine : (⟨S16384x100, .i32⟩ : BufTy).Contents (Elt F) :=
    broadcastInDim S16384x100 ![] Facts₀.bcast_S_S16384x100 (constantI S_ 32 9#32)
  let one : (⟨S16384x100, .i32⟩ : BufTy).Contents (Elt F) :=
    broadcastInDim S16384x100 ![] Facts₀.bcast_S_S16384x100 (constantI S_ 32 1065353216#32)
  maximumf (wide lo) (addf (mulf (subf (bitcastToFloat .f32 (ori (Host.shrui w nine) one))
    (broadcastInDim S16384x100 ![] Facts₀.bcast_S_S16384x100 (constant S_ .f32 0x3F800000#32)))
    (wide (subf hi lo))) (wide lo))

/-- The line leaves a draw in the second draw's buffer, whatever the buffers held. -/
def Draws (l : List (HloOp τ sig (Elt F))) : Prop :=
  ∀ V, ∃ w, after l V (Proc.devRef .tc main_v15) = draw w

theorem Draws.append (k : List (HloOp τ sig (Elt F))) {l} (h : Draws l) : Draws (k ++ l) := fun V => by
  rw [after_join]; exact h _

theorem draws {t : List (HloOp τ sig (Elt F))} (ht : ∀ op ∈ t, Plain 544 op) :
    Draws (Lists.K.pre ++ (t ++ Lists.K.post)) := fun V => by
  rw [after_join, after_join]
  have h₂ : after t (after Lists.K.pre V) (Proc.devRef .tc main_call2_v2) = after Lists.K.pre V (Proc.devRef .tc main_call2_v2) :=
    after_below ht rfl (by decide) _
  have h₃ : after t (after Lists.K.pre V) (Proc.devRef .tc main_call2_v3) = after Lists.K.pre V (Proc.devRef .tc main_call2_v3) :=
    after_below ht rfl (by decide) _
  have e₂ : after Lists.K.pre V (Proc.devRef .tc main_call2_v2) =
      broadcastInDim S1x1 ![] Facts₀.bcast_S_S1x1 (constant S_ .f32 0x00000000#32) := by
    unfold Lists.K.pre; after_reads_simp; rfl
  have e₃ : after Lists.K.pre V (Proc.devRef .tc main_call2_v3) =
      broadcastInDim S1x1 ![] Facts₀.bcast_S_S1x1 (constant S_ .f32 0x3F800000#32) := by
    unfold Lists.K.pre; after_reads_simp; rfl
  rw [e₂] at h₂
  rw [e₃] at h₃
  revert h₂ h₃
  generalize after t (after Lists.K.pre V) = W
  intro h₂ h₃
  refine ⟨(xori (W (Proc.devRef .tc main_call2.call0.v171.ref) : (⟨S16384x100, .i32⟩ : BufTy).Contents (Elt F))
    (W (Proc.devRef .tc main_call2.call0.v175.ref)) : (⟨S16384x100, .i32⟩ : BufTy).Contents (Elt F)), ?_⟩
  unfold Lists.K.post
  after_reads_simp
  rw [h₂, h₃]
  rfl

end Cert.Proof.Draw

end
-- ==== Proof.Prefix.lean ====
/-
  The kernel's program and the reference's begin with the same lines — the key, its two halves, the two uniform draws — over buffers
  of the same numbers: the two lines in step (Pairs.lean).
-/
module

public import proofs.«01_k».proof.Defs
public import proofs.«01_k».proof.Proof.Pairs
public import proofs.«01_k».proof.Proof.Draw
public import proofs.«01_k».proof.Proof.Gen.KernelIdeal
public import proofs.«01_k».proof.Proof.Gen.ReferenceIdeal

@[expose] public section

noncomputable section

namespace Cert.Proof.Prefix

open Idealize.ShloMosaic Idealize.SL.Sem
open Idealize.ShloMosaic.StableHlo
open Cert.Proof.Pairs Cert.Proof.Draw

variable {F : FTy → Type} [FloatOps F]

set_option maxRecDepth 8192
set_option maxHeartbeats 4000000

/-- The hash inside the split of the key, which writes the buffers numbered from 24 to 245. -/
theorem hash₀ : Lines 24 246
    (Cert.KernelIdeal.fn_threefry2x32.body (F := F) Cert.KernelIdeal.main_call0.v1 Cert.KernelIdeal.main_call0.v3 Cert.KernelIdeal.main_call0.v10 Cert.KernelIdeal.main_call0.v9 Cert.KernelIdeal.main_call0.call0)
    (Cert.ReferenceIdeal.fn_threefry2x32.body (F := F) Cert.ReferenceIdeal.main_call0.v1 Cert.ReferenceIdeal.main_call0.v3 Cert.ReferenceIdeal.main_call0.v10 Cert.ReferenceIdeal.main_call0.v9 Cert.ReferenceIdeal.main_call0.call0) := by
  repeat' first
    | exact Lines.nil
    | refine Lines.cons ?_ ?_
    | apply Lines.call
    | (first
        | with_reducible apply step_binary
        | with_reducible apply step_unary
        | with_reducible apply step_nullary
        | with_reducible apply step_reshape) <;>
      first | exact ⟨rfl, rfl, rfl, by decide⟩ | exact ⟨rfl, rfl, rfl, rfl⟩ | exact rfl | exact HEq.rfl

/-- The split of the key. -/
theorem split₀ : Lines 11 249 (Cert.KernelIdeal.fn_threefry_split.body (F := F) (.of Cert.KernelIdeal.main_v6) Cert.KernelIdeal.main_call0)
    (Cert.ReferenceIdeal.fn_threefry_split.body (F := F) (.of Cert.ReferenceIdeal.main_v6) Cert.ReferenceIdeal.main_call0) := by
  unfold Cert.KernelIdeal.fn_threefry_split.body Cert.ReferenceIdeal.fn_threefry_split.body
  repeat' first
    | exact Lines.nil
    | with_reducible refine Lines.call hash₀ ?_
    | refine Lines.cons ?_ ?_
    | apply Lines.call
    | (first
        | with_reducible apply step_binary
        | with_reducible apply step_unary
        | with_reducible apply step_nullary
        | with_reducible apply step_reshape) <;>
      first | exact ⟨rfl, rfl, rfl, by decide⟩ | exact ⟨rfl, rfl, rfl, rfl⟩ | exact rfl | exact HEq.rfl

/-- The hash inside the first draw, which writes the buffers numbered from 277 to 498. -/
theorem hash₁ : Lines 277 499
    (Cert.KernelIdeal.fn_threefry2x32_0.body (F := F) Cert.KernelIdeal.main_call1.v5 Cert.KernelIdeal.main_call1.v7 Cert.KernelIdeal.main_call1.v18 Cert.KernelIdeal.main_call1.v17 Cert.KernelIdeal.main_call1.call0)
    (Cert.ReferenceIdeal.fn_threefry2x32_0.body (F := F) Cert.ReferenceIdeal.main_call1.v5 Cert.ReferenceIdeal.main_call1.v7 Cert.ReferenceIdeal.main_call1.v18 Cert.ReferenceIdeal.main_call1.v17 Cert.ReferenceIdeal.main_call1.call0) := by
  repeat' first
    | exact Lines.nil
    | refine Lines.cons ?_ ?_
    | apply Lines.call
    | (first
        | with_reducible apply step_binary
        | with_reducible apply step_unary
        | with_reducible apply step_nullary
        | with_reducible apply step_reshape) <;>
      first | exact ⟨rfl, rfl, rfl, by decide⟩ | exact ⟨rfl, rfl, rfl, rfl⟩ | exact rfl | exact HEq.rfl

/-- The first draw. -/
theorem draw₁ : Lines 255 517
    (Cert.KernelIdeal.fn_uniform.body (F := F) (.of Cert.KernelIdeal.main_v9) (.of Cert.KernelIdeal.main_cst) (.of Cert.KernelIdeal.main_cst_2)
      Cert.KernelIdeal.main_call1)
    (Cert.ReferenceIdeal.fn_uniform.body (F := F) (.of Cert.ReferenceIdeal.main_v9) (.of Cert.ReferenceIdeal.main_cst)
      (.of Cert.ReferenceIdeal.main_cst_2) Cert.ReferenceIdeal.main_call1) := by
  unfold Cert.KernelIdeal.fn_uniform.body Cert.ReferenceIdeal.fn_uniform.body
  repeat' first
    | exact Lines.nil
    | with_reducible refine Lines.call hash₁ ?_
    | refine Lines.cons ?_ ?_
    | apply Lines.call
    | (first
        | with_reducible apply step_binary
        | with_reducible apply step_unary
        | with_reducible apply step_nullary
        | with_reducible apply step_reshape) <;>
      first | exact ⟨rfl, rfl, rfl, by decide⟩ | exact ⟨rfl, rfl, rfl, rfl⟩ | exact rfl | exact HEq.rfl

/-- The hash inside the second draw, which writes the buffers numbered from 544 to 765. -/
theorem hash₂ : Lines 544 766
    (Cert.KernelIdeal.fn_threefry2x32_0.body (F := F) Cert.KernelIdeal.main_call2.v5 Cert.KernelIdeal.main_call2.v7 Cert.KernelIdeal.main_call2.v18
      Cert.KernelIdeal.main_call2.v17 Cert.KernelIdeal.main_call2.call0)
    (Cert.ReferenceIdeal.fn_threefry2x32_0.body (F := F) Cert.ReferenceIdeal.main_call2.v5 Cert.ReferenceIdeal.main_call2.v7
      Cert.ReferenceIdeal.main_call2.v18 Cert.ReferenceIdeal.main_call2.v17 Cert.ReferenceIdeal.main_call2.call0) := by
  repeat' first
    | exact Lines.nil
    | refine Lines.cons ?_ ?_
    | apply Lines.call
    | (first
        | with_reducible apply step_binary
        | with_reducible apply step_unary
        | with_reducible apply step_nullary
        | with_reducible apply step_reshape) <;>
      first | exact ⟨rfl, rfl, rfl, by decide⟩ | exact ⟨rfl, rfl, rfl, rfl⟩ | exact rfl | exact HEq.rfl

/-- The second draw: its operations in the two programs, in step, and what they leave after the lines of its two ends. -/
theorem draw₂ : ∃ (l : List (HloOp Cert.KernelIdeal.τ Cert.KernelIdeal.sig (Elt F))) (l' : List (HloOp Cert.ReferenceIdeal.τ Cert.ReferenceIdeal.sig (Elt F))),
    Steps 522 784 l l' ∧
    IsSeq (Cert.KernelIdeal.fn_uniform.body (F := F) (.of Cert.KernelIdeal.main_v11) (.of Cert.KernelIdeal.main_cst_4)
      (.of Cert.KernelIdeal.main_cst_5) Cert.KernelIdeal.main_call2) l ∧
    IsSeq (Cert.ReferenceIdeal.fn_uniform.body (F := F) (.of Cert.ReferenceIdeal.main_v11) (.of Cert.ReferenceIdeal.main_cst_4)
      (.of Cert.ReferenceIdeal.main_cst_5) Cert.ReferenceIdeal.main_call2) l' ∧
    Draws (nullary Cert.KernelIdeal.main_cst_4 (constant Cert.KernelIdeal.S_ .f32 0x00000000#32) ::
      nullary Cert.KernelIdeal.main_cst_5 (constant Cert.KernelIdeal.S_ .f32 0x3F800000#32) :: l) := by
  obtain ⟨t, t', hs, hk, hr⟩ := hash₂ (F := F)
  apply Exists.intro
  apply Exists.intro
  refine ⟨?s, ?k, ?r, ?d⟩
  case k =>
    unfold Cert.KernelIdeal.fn_uniform.body
    repeat first | exact IsSeq.nil | with_reducible apply seq_call hk | apply IsSeq.cons
  case r =>
    unfold Cert.ReferenceIdeal.fn_uniform.body
    repeat first | exact IsSeq.nil | with_reducible apply seq_call hr | apply IsSeq.cons
  case d => exact draws hs.plain.1
  case s =>
    repeat' first
    | exact Steps.nil
    | with_reducible refine Steps.cons ?_ ?_
    | with_reducible refine Steps.append hs ?_
    | (first
        | with_reducible apply step_binary
        | with_reducible apply step_unary
        | with_reducible apply step_nullary
        | with_reducible apply step_reshape) <;>
      first | exact ⟨rfl, rfl, rfl, by decide⟩ | exact ⟨rfl, rfl, rfl, rfl⟩ | exact rfl | exact HEq.rfl

end Cert.Proof.Prefix

end
-- ==== Proof.Split.lean ====
/-
  The two programs as lines: what they share — the key, its halves and the two draws, in step — and after it what each does of its own.
-/
module

public import proofs.«01_k».proof.Proof.Prefix

@[expose] public section

noncomputable section

namespace Cert.Proof.Split

open Idealize.ShloMosaic Idealize.SL.Sem
open Idealize.ShloMosaic.StableHlo
open Cert.Proof.Pairs Cert.Proof.Draw

variable {F : FTy → Type} [FloatOps F]

set_option maxRecDepth 8192
set_option maxHeartbeats 8000000

/-- A program of the kernel's signature, and one of the reference's. -/
abbrev KProg (F : FTy → Type) [FloatOps F] := Prog (TpuEff Cert.KernelIdeal.nD Cert.KernelIdeal.τ Cert.KernelIdeal.sig (Elt F)
  (SparseCore.Sig (Pipeline.Sig Cert.KernelIdeal.Λ₀ (Fin 0) fun p => (Cert.KernelIdeal.pcfgs (F := F) p).Adm) 1) .tc) PUnit
abbrev RProg (F : FTy → Type) [FloatOps F] := Prog (TpuEff Cert.ReferenceIdeal.nD Cert.ReferenceIdeal.τ Cert.ReferenceIdeal.sig (Elt F)
  (Pipeline.Sig Cert.ReferenceIdeal.Λ₀ (Fin 0) fun p => (Cert.ReferenceIdeal.pcfgs (F := F) p).Adm) .tc) PUnit

/-- The two programs are lines in step, writing the buffers numbered from `i` to 783, that leave a draw, then `k` and `k'`. -/
def Split (i : ℕ) (k : KProg F) (k' : RProg F) (p : KProg F) (p' : RProg F) : Prop :=
  ∃ l l', Steps i 784 l l' ∧ Draws l ∧ p = (seq l >>= fun _ => k) ∧ p' = (seq l' >>= fun _ => k')

variable {i n : ℕ} {k p q : KProg F} {k' p' q' : RProg F}

theorem Split.call (h : Lines i n p p') (hq : Split n k k' q q') : Split i k k' (p >>= fun _ => q) (p' >>= fun _ => q') := by
  obtain ⟨l, l', hs, e, e'⟩ := h
  obtain ⟨m, m', hm, hd, f, f'⟩ := hq
  unfold IsSeq at e e'
  refine ⟨l ++ m, l' ++ m', hs.append hm, hd.append l, ?_, ?_⟩
  · rw [e, f, seq_append, bind_assoc]
  · rw [e', f', seq_append, bind_assoc]

theorem Split.cons {op : HloOp Cert.KernelIdeal.τ Cert.KernelIdeal.sig (Elt F)} {op' : HloOp Cert.ReferenceIdeal.τ Cert.ReferenceIdeal.sig (Elt F)}
    (h : Step i op op') (hq : Split (i + 1) k k' q q') :
    Split i k k' ((hlo rfl op fun _ => .ret (⟨⟩ : PUnit)) >>= fun _ => q) ((hlo rfl op' fun _ => .ret (⟨⟩ : PUnit)) >>= fun _ => q') := by
  obtain ⟨m, m', hm, hd, f, f'⟩ := hq
  refine ⟨op :: m, op' :: m', .cons h hm, hd.append [op], ?_, ?_⟩
  · rw [f, seq, bind_assoc]
  · rw [f', seq, bind_assoc]

theorem Split.last {a b : HloOp Cert.KernelIdeal.τ Cert.KernelIdeal.sig (Elt F)} {a' b' : HloOp Cert.ReferenceIdeal.τ Cert.ReferenceIdeal.sig (Elt F)}
    {l : List (HloOp Cert.KernelIdeal.τ Cert.KernelIdeal.sig (Elt F))} {l' : List (HloOp Cert.ReferenceIdeal.τ Cert.ReferenceIdeal.sig (Elt F))}
    (h : Steps (i + 1 + 1) 784 l l') (ha : Step i a a') (hb : Step (i + 1) b b') (hp : IsSeq p l) (hp' : IsSeq p' l') (hd : Draws (a :: b :: l))
    (hk : q = k) (hk' : q' = k') :
    Split i k k' ((hlo rfl a fun _ => .ret (⟨⟩ : PUnit)) >>= fun _ => (hlo rfl b fun _ => .ret (⟨⟩ : PUnit)) >>= fun _ => p >>= fun _ => q)
      ((hlo rfl a' fun _ => .ret (⟨⟩ : PUnit)) >>= fun _ => (hlo rfl b' fun _ => .ret (⟨⟩ : PUnit)) >>= fun _ => p' >>= fun _ => q') := by
  unfold IsSeq at hp hp'
  refine ⟨a :: b :: l, a' :: b' :: l', .cons ha (.cons hb h), hd, ?_, ?_⟩
  · rw [hp, hk, seq, seq]; simp only [bind_assoc]
  · rw [hp', hk', seq, seq]; simp only [bind_assoc]

/-- What the kernel's program does after the draws. -/
def restK (d : Dev Cert.KernelIdeal.nD) : KProg F :=
  seq Lists.K.tail >>= fun _ => Cert.KernelIdeal.sc.run d 0 >>= fun _ => seq Lists.K.back

/-- Both programs, split after the draws. -/
theorem split : Split 1 (restK 0) (seq Lists.R.tail) (Cert.KernelIdeal.main (F := F) 0) (Cert.ReferenceIdeal.main (F := F) 0) := by
  obtain ⟨l, l', hs, hk, hr, hd⟩ := Prefix.draw₂ (F := F)
  unfold Cert.KernelIdeal.main Cert.ReferenceIdeal.main
  repeat' first
    | with_reducible refine Split.last hs ?_ ?_ hk hr hd rfl rfl
    | with_reducible refine Split.cons ?_ ?_
    | with_reducible refine Split.call Prefix.split₀ ?_
    | with_reducible refine Split.call Prefix.draw₁ ?_
    | (first
        | with_reducible apply step_binary
        | with_reducible apply step_unary
        | with_reducible apply step_nullary
        | with_reducible apply step_reshape) <;>
      first | exact ⟨rfl, rfl, rfl, by decide⟩ | exact ⟨rfl, rfl, rfl, rfl⟩ | exact rfl | exact HEq.rfl

end Cert.Proof.Split

end
-- ==== Proof.Places.lean ====
/-
  The places that both programs read, of the whole numbers `q` (0 to 16383) and the choice `b` (row kept or row redrawn) of each
  entry: entry number plus `q` times 100 where redrawn, less 1638400 from there on. So every place lies inside the table
  (`wrap_lt`), and reading the table there, as the kernel's call does (`Tile.looked`), is the reference's gather with its
  adjustment of negative places and its clamp (`gathered`).
-/
module

public import proofs.«01_k».proof.Proof.Tile
public import proofs.«01_k».proof.Proof.Lists
public import Idealize.ShloMosaic.Lib.Routing.OpsSet

@[expose] public section

noncomputable section

namespace Cert.Proof.Places

open Idealize.ShloMosaic Idealize.SL.Sem
open Idealize.ShloMosaic.StableHlo Idealize.ShloMosaic.ValueIdx
open Cert.KernelIdeal Cert.Proof.Tile

set_option maxRecDepth 8192

/-- The table's length at every position of the list. -/
def length : IVec S1638400 32 := broadcastInDim S1638400 ![] Facts₀.bcast_S_S1638400 (constantI S_ 32 1638400#32)

/-- Each position's own number plus its step. -/
def moved (q : IVec S16384x100 32) (b : IVec S16384x100 1) : IVec S1638400 32 :=
  addi (iotaInDim S1638400 32 0) (shapeCast S1638400 (muli q (muli (extui 32 b Facts₀.natLt_1_32)
    (broadcastInDim S16384x100 ![] Facts₀.bcast_S_S16384x100 (constantI S_ 32 100#32)))) Facts₀.shapeCasts_S16384x100_S1638400)

/-- The places: back to the table's start past its end. -/
def wrap (q : IVec S16384x100 32) (b : IVec S16384x100 1) : IVec S1638400 32 :=
  select (cmpi .sge (moved q b) length) (subi (moved q b) length) (moved q b)

/-- Whole numbers of the range of the second draw. -/
def Small (q : IVec S16384x100 32) : Prop := ∀ j, 0 ≤ (q j).toInt ∧ (q j).toInt ≤ 16383

theorem small_nat {w : BitVec 32} (h : 0 ≤ w.toInt ∧ w.toInt ≤ 16383) : w.toNat ≤ 16383 := by
  have := w.isLt
  rw [BitVec.toInt_eq_toNat_cond] at h
  split at h <;> omega

theorem step_le {w : BitVec 32} (h : w.toNat ≤ 16383) (b : BitVec 1) : (w * (b.setWidth 32 * 100#32)).toNat ≤ 1638300 := by
  have hb : (b.setWidth 32).toNat ≤ 1 := by
    have := b.isLt
    rw [BitVec.toNat_setWidth]; omega
  have e : (b.setWidth 32 * 100#32).toNat ≤ 100 := by
    rw [BitVec.toNat_mul]
    have : (100#32).toNat = 100 := rfl
    rw [this]
    exact (Nat.mod_le _ _).trans (by omega)
  rw [BitVec.toNat_mul]
  exact (Nat.mod_le _ _).trans ((Nat.mul_le_mul h e).trans (by decide))

theorem moved_lt {q : IVec S16384x100 32} (hq : Small q) (b : IVec S16384x100 1) (j : S1638400.Idx) : (moved q b j).toNat < 3276800 := by
  have e : moved q b j = BitVec.ofNat 32 (j 0).val +
      q (Shape.reshapeEquiv Facts₀.shapeCasts_S16384x100_S1638400 j) * ((b (Shape.reshapeEquiv Facts₀.shapeCasts_S16384x100_S1638400 j)).setWidth 32 * 100#32) := rfl
  have h := step_le (small_nat (hq (Shape.reshapeEquiv Facts₀.shapeCasts_S16384x100_S1638400 j)))
    (b (Shape.reshapeEquiv Facts₀.shapeCasts_S16384x100_S1638400 j))
  rw [e]
  generalize q _ * _ = s at h
  have hj : (j 0).val < 1638400 := (j 0).isLt
  rw [BitVec.toNat_add, BitVec.toNat_ofNat]
  omega

theorem wrapped_lt {s : BitVec 32} (h : s.toNat < 3276800) :
    (Scalar.select (IntOp.cmpi .sge s 1638400#32) (IntOp.subi s 1638400#32) s).toNat < 1638400 := by
  have k : (1638400#32).toNat = 1638400 := rfl
  have ki : (1638400#32).toInt = 1638400 := rfl
  have si : s.toInt = s.toNat := by
    rw [BitVec.toInt_eq_toNat_cond, if_pos (by omega)]
  unfold Scalar.select IntOp.cmpi IntOp.subi
  by_cases c : (1638400#32).sle s = true
  · simp only [c, BitVec.ofBool_true]
    rw [if_pos trivial]
    rw [BitVec.sle_iff_toInt_le, ki, si] at c
    rw [BitVec.toNat_sub, k]
    omega
  · simp only [Bool.not_eq_true] at c
    simp only [c, BitVec.ofBool_false]
    rw [if_neg (by decide)]
    have c' : ¬ (1638400#32).sle s = true := by rw [c]; decide
    rw [BitVec.sle_iff_toInt_le, ki, si] at c'
    omega

theorem wrap_lt {q : IVec S16384x100 32} (hq : Small q) (b : IVec S16384x100 1) (j : S1638400.Idx) : (wrap q b j).toNat < 1638400 :=
  wrapped_lt (moved_lt hq b j)

/-! ## The reference's gather -/

/-- The reference's adjustment of places before the table's start. -/
def raised (p : IVec S1638400 32) : IVec S1638400 32 :=
  select (cmpi .slt p (broadcastInDim S1638400 ![] Facts₀.bcast_S_S1638400 (constantI S_ 32 0#32))) (addi p length) p

theorem raised_eq {p : IVec S1638400 32} (hp : ∀ j, (p j).toNat < 1638400) : raised p = p := by
  funext j
  have h := hp j
  show Scalar.select (IntOp.cmpi .slt (p j) 0#32) (IntOp.addi (p j) 1638400#32) (p j) = p j
  generalize p j = s at h
  have c : s.slt 0#32 = false := by
    rw [Bool.eq_false_iff, ne_eq, BitVec.slt_iff_toInt_lt]
    have si : s.toInt = s.toNat := by
      rw [BitVec.toInt_eq_toNat_cond, if_pos (by omega)]
    rw [si, BitVec.toInt_zero]
    omega
  unfold Scalar.select IntOp.cmpi
  simp only [c, BitVec.ofBool_false]
  rw [if_neg (by decide)]

/-- The reference's gather at places inside the table reads the table there. -/
theorem gathered {α : Type} (x : S1638400.Idx → α) {p : IVec S1638400 32} (hp : ∀ j, (p j).toNat < 1638400) :
    Host.gather Cert.ReferenceIdeal.gather_S1638400_S1638400x1_S1638400_n_0_n_n_0_1_1 x
      (broadcastInDim Cert.ReferenceIdeal.S1638400x1 ![0] Cert.ReferenceIdeal.Facts₀.bcast_S1638400_S1638400x1_0 (raised p)) = fun j => x (word (p j)) := by
  rw [raised_eq hp]
  funext j
  have e : j = ix1 (n := 1638400) (j 0) := by
    funext a
    match a with
    | 0 => rfl
  have h := hp j
  rw [e] at h ⊢
  refine (Idealize.ShloMosaic.Routing.gather_take1 _ rfl rfl rfl rfl x _ (j 0) ⟨(p (ix1 (n := 1638400) (j 0))).toNat, h⟩ ?_ (by decide)).trans (congrArg x ?_)
  · show _ = BitVec.ofNat 32 (p (ix1 (n := 1638400) (j 0))).toNat
    rw [BitVec.ofNat_toNat, BitVec.setWidth_eq]
    show p _ = _
    congr 1
    funext a
    match a with
    | 0 => rfl
  · funext a
    match a with
    | 0 => exact Fin.ext (Nat.mod_eq_of_lt h).symm

end Cert.Proof.Places

end
-- ==== Proof.IdealRange.lean ====
/-
  The kernel's arithmetic over the reals: a draw times 16384 is a real number from 0 to below 16384, so converting it to an integer
  gives one from 0 to 16383, and the same whether or not it is rounded down first.
-/
module

public import Idealize.ShloMosaic.PureOps.Ideal

@[expose] public section

noncomputable section

namespace Cert.Proof.IdealRange

open Idealize.ShloMosaic

/-- The word's bounds. -/
theorem word_bounds (w : BitVec 32) : 0x3F800000 ≤ (w >>> 9 ||| 1065353216#32).toNat ∧ (w >>> 9 ||| 1065353216#32).toNat ≤ 0x3FFFFFFF := by
  constructor
  · rw [BitVec.toNat_or]; exact Nat.right_le_or
  · rw [BitVec.toNat_or, BitVec.toNat_ushiftRight]
    exact Nat.le_of_lt_succ (Nat.or_lt_two_pow (n := 30) (by have := w.isLt; omega) (by decide))

/-- A word with sign plus and exponent 127 is a number from 1 to below 2. -/
theorem ofBits_one_two {u : BitVec 32} (hl : 0x3F800000 ≤ u.toNat) (hh : u.toNat ≤ 0x3FFFFFFF) :
    ∃ r : ℝ, 0 ≤ r ∧ r < 1 ∧ Ideal.ofBits .f32 u = ((1 + r : ℝ) : EReal) := by
  obtain ⟨n, hn⟩ := Nat.exists_eq_add_of_le hl
  have hn' : n < 2 ^ 23 := by omega
  have e₁ : u.extractLsb' 31 1 = 0#1 := BitVec.eq_of_toNat_eq (by
    rw [BitVec.extractLsb'_toNat, Nat.shiftRight_eq_div_pow]; show _ = 0; omega)
  have e₂ : (u.extractLsb' 23 8).toNat = 127 := by
    rw [BitVec.extractLsb'_toNat, Nat.shiftRight_eq_div_pow]; omega
  have e₃ : (u.extractLsb' 0 23).toNat = n := by
    rw [BitVec.extractLsb'_toNat, Nat.shiftRight_eq_div_pow, hn]; omega
  refine ⟨(n : ℝ) * (2 : ℝ) ^ (-23 : ℤ), by positivity, ?_, ?_⟩
  · have : (n : ℝ) < 2 ^ 23 := by exact_mod_cast hn'
    rw [zpow_neg, ← div_eq_mul_inv, div_lt_one (by positivity)]
    exact_mod_cast this
  · show Ideal.ieee 8 23 u = _
    unfold Ideal.ieee
    simp only [e₁, e₂, e₃]
    rw [if_neg (by decide), if_neg (by decide), if_neg (by decide)]
    refine congrArg _ ?_
    rw [show (((127 : ℕ) : ℤ) - (2 ^ (8 - 1) - 1) - (23 : ℕ)) = -23 by norm_num]
    have h : (8388608 : ℝ) * (2 : ℝ) ^ (-23 : ℤ) = 1 := by norm_num
    push_cast
    rw [one_mul, add_mul, h]

/-- The draw of one word of the hash, times 16384. -/
def scaled (w : BitVec 32) : EReal :=
  max (Ideal.ofBits .f32 0x00000000#32) ((Ideal.ofBits .f32 (w >>> 9 ||| 1065353216#32) - Ideal.ofBits .f32 0x3F800000#32) *
    (Ideal.ofBits .f32 0x3F800000#32 - Ideal.ofBits .f32 0x00000000#32) + Ideal.ofBits .f32 0x00000000#32) * Ideal.ofBits .f32 0x46800000#32

theorem scaled_eq (w : BitVec 32) : ∃ r : ℝ, 0 ≤ r ∧ r < 16384 ∧ scaled w = (r : EReal) := by
  obtain ⟨r, h0, h1, e⟩ := ofBits_one_two (word_bounds w).1 (word_bounds w).2
  have z : Ideal.ofBits .f32 0x00000000#32 = ((0 : ℝ) : EReal) := by simp [Ideal.ofBits, Ideal.ieee]
  have o : Ideal.ofBits .f32 0x3F800000#32 = ((1 : ℝ) : EReal) := by simp [Ideal.ofBits, Ideal.ieee, -EReal.coe_mul]; norm_num
  have k : Ideal.ofBits .f32 0x46800000#32 = ((16384 : ℝ) : EReal) := by simp [Ideal.ofBits, Ideal.ieee, -EReal.coe_mul]; norm_num
  refine ⟨r * 16384, by positivity, by linarith, ?_⟩
  unfold scaled
  rw [e, z, o, k, ← EReal.coe_sub, ← EReal.coe_sub, ← EReal.coe_mul, ← EReal.coe_add, ← EReal.coe_strictMono.monotone.map_max, ← EReal.coe_mul]
  rw [show (1 + r - 1) * (1 - 0) + 0 = r by ring, max_eq_right h0]

theorem fptosi_eq {r : ℝ} (h0 : 0 ≤ r) (h1 : r < 16384) : Ideal.fptosi 32 (r : EReal) = BitVec.ofInt 32 ⌊r⌋ ∧ 0 ≤ ⌊r⌋ ∧ ⌊r⌋ ≤ 16383 := by
  have a : 0 ≤ ⌊r⌋ := Int.floor_nonneg.mpr h0
  have b : ⌊r⌋ < 16384 := Int.floor_lt.mpr (by exact_mod_cast h1)
  refine ⟨?_, a, by omega⟩
  show BitVec.ofInt 32 (max _ (min _ (if 0 ≤ r then ⌊r⌋ else ⌈r⌉))) = _
  rw [if_pos h0]
  congr 1
  norm_num
  omega

theorem scaled_range (w : BitVec 32) : 0 ≤ (Ideal.fptosi 32 (scaled w)).toInt ∧ (Ideal.fptosi 32 (scaled w)).toInt ≤ 16383 := by
  obtain ⟨r, h0, h1, e⟩ := scaled_eq w
  obtain ⟨f, a, b⟩ := fptosi_eq h0 h1
  rw [e, f, BitVec.toInt_ofInt_eq_self (by decide)] <;> omega

/-- Rounding down first changes nothing. -/
theorem scaled_floor (w : BitVec 32) : Ideal.fptosi 32 (Ideal.liftRound Int.floor (scaled w)) = Ideal.fptosi 32 (scaled w) := by
  obtain ⟨r, h0, h1, e⟩ := scaled_eq w
  obtain ⟨f, a, b⟩ := fptosi_eq h0 h1
  rw [e, f]
  show Ideal.fptosi 32 (((⌊r⌋ : ℝ)) : EReal) = _
  have h0' : (0 : ℝ) ≤ (⌊r⌋ : ℝ) := by exact_mod_cast a
  have h1' : (⌊r⌋ : ℝ) < 16384 := by exact_mod_cast (by omega : ⌊r⌋ < 16384)
  rw [(fptosi_eq h0' h1').1, Int.floor_intCast]

end Cert.Proof.IdealRange

end
-- ==== Proof.Read.lean ====
/-
  What the lines after the draws leave, of what the draws left: the places and the flat table before the kernel's call, the result
  after it, and the reference's result.
-/
module

public import proofs.«01_k».proof.Proof.Places
public import proofs.«01_k».proof.Proof.Draw
public import proofs.«01_k».proof.Proof.IdealRange

@[expose] public section

noncomputable section

namespace Cert.Proof.Read

open Idealize.ShloMosaic Idealize.SL.Sem
open Idealize.ShloMosaic.StableHlo
open Cert.Proof.Places Cert.Proof.Draw

variable {F : FTy → Type} [FloatOps F]

set_option maxRecDepth 8192
set_option maxHeartbeats 4000000

section

open Cert.KernelIdeal

/-- The draw times the number of rows. -/
def times (u : FVec F S16384x100 .f32) : FVec F S16384x100 .f32 :=
  mulf u (broadcastInDim S16384x100 ![] Facts₀.bcast_S_S16384x100 (constant S_ .f32 0x46800000#32))

/-- A table as one line of words, and back. -/
def flat (x : (⟨S16384x100, .f32⟩ : BufTy).Contents (Elt F)) : (⟨S1638400, .f32⟩ : BufTy).Contents (Elt F) :=
  shapeCast S1638400 x Facts₀.shapeCasts_S16384x100_S1638400
def rows (x : (⟨S1638400, .f32⟩ : BufTy).Contents (Elt F)) : (⟨S16384x100, .f32⟩ : BufTy).Contents (Elt F) :=
  shapeCast S16384x100 x Facts₀.shapeCasts_S1638400_S16384x100

theorem tail_places (U : Valuation τ sig (Elt F)) :
    after Lists.K.tail U (Proc.devRef .tc main_v31) =
      wrap (fptosi 32 (Host.floor (times (U (Proc.devRef .tc main_v15))))) (U (Proc.devRef .tc main_v14)) := by
  unfold Lists.K.tail; after_reads_simp; rfl

theorem tail_table (U : Valuation τ sig (Elt F)) :
    after Lists.K.tail U (Proc.devRef .tc main_v32) = flat (U (Proc.devRef .tc main_arg0)) := by
  unfold Lists.K.tail; after_reads_simp; rfl

theorem tail_arg (U : Valuation τ sig (Elt F)) :
    after Lists.K.tail U (Proc.devRef .tc main_arg0) = U (Proc.devRef .tc main_arg0) := by
  unfold Lists.K.tail; after_reads_simp

theorem back_rows (U : Valuation τ sig (Elt F)) :
    after Lists.K.back U (Proc.devRef .tc main_v34) = rows (U (Proc.devRef .tc main_v33)) := by
  unfold Lists.K.back; after_reads_simp; rfl

theorem back_arg (U : Valuation τ sig (Elt F)) :
    after Lists.K.back U (Proc.devRef .tc main_arg0) = U (Proc.devRef .tc main_arg0) := by
  unfold Lists.K.back; after_reads_simp

/-- The draws' whole numbers lie in the range of rows. -/
def Good (F : FTy → Type) [FloatOps F] : Prop := ∀ w, Small (fptosi 32 (Host.floor (times (F := F) (draw w))))

/-- Two tests of a signed word, both passed. -/
theorem small_of_tests {k : BitVec 32} (h : IntOp.andi (IntOp.cmpi .sge k 0#32) (IntOp.cmpi .slt k 16384#32) = 1#1) :
    0 ≤ k.toInt ∧ k.toInt ≤ 16383 := by
  have e₀ : (0#32 : BitVec 32).toInt = 0 := rfl
  have e₁ : (16384#32 : BitVec 32).toInt = 16384 := rfl
  unfold IntOp.andi IntOp.cmpi at h
  cases c₀ : (0#32).sle k <;> cases c₁ : k.slt 16384#32 <;> simp only [c₀, c₁] at h <;> first | exact absurd h (by decide) | skip
  rw [BitVec.sle_iff_toInt_le, e₀] at c₀
  rw [BitVec.slt_iff_toInt_lt, e₁] at c₁
  omega

/-- The whole number of a draw, word for word, of the upper 23 bits `v` of a word of the hash. -/
def whole (v : BitVec 32) : BitVec 32 :=
  FloatOps.fptosi 32 (FloatOps.hostUnary .floor (FloatOps.mulf (FloatOps.maximumf
    (FloatOps.ofBits .f32 0x00000000#32) (FloatOps.addf (FloatOps.mulf (FloatOps.subf
      (FloatOps.ofBits (F := Bits) .f32 (v ||| 1065353216#32)) (FloatOps.ofBits .f32 0x3F800000#32))
      (FloatOps.subf (FloatOps.ofBits .f32 0x3F800000#32) (FloatOps.ofBits .f32 0x00000000#32)))
      (FloatOps.ofBits .f32 0x00000000#32))) (FloatOps.ofBits .f32 0x46800000#32)))

/-- The precondition speaks of every value that the upper 23 bits of a word give, hence of every draw. -/
theorem good_bits [Cert.Pre_floors_in_range.Facts] {x : FVec Bits Cert.Pre_floors_in_range.S16384x100 .f32}
    (h : Cert.Pre_floors_in_range.fn (F := Bits) x = fun _ => 1#1) : Good Bits := fun w j => by
  have hi : (w j >>> 9).toNat < 8388608 := by
    rw [BitVec.toNat_ushiftRight]; have := (w j).isLt; omega
  have e := congrFun h (fun k => ⟨(w j >>> 9).toNat, by obtain rfl : k = 0 := Subsingleton.elim _ _; exact hi⟩)
  have ew : BitVec.ofNat 32 (w j >>> 9).toNat = w j >>> 9 := by rw [BitVec.ofNat_toNat, BitVec.setWidth_eq]
  have e' : IntOp.andi (IntOp.cmpi .sge (whole (BitVec.ofNat 32 (w j >>> 9).toNat)) 0#32)
      (IntOp.cmpi .slt (whole (BitVec.ofNat 32 (w j >>> 9).toNat)) 16384#32) = 1#1 := e
  rw [ew] at e'
  exact small_of_tests e'

theorem good_ideal : Good Ideal := fun w j => by
  have e : fptosi 32 (Host.floor (times (F := Ideal) (draw (F := Ideal) w))) j = fptosi 32 (times (F := Ideal) (draw (F := Ideal) w)) j :=
    IdealRange.scaled_floor (w _)
  rw [e]
  exact IdealRange.scaled_range (w _)

end

section

open Cert.ReferenceIdeal

theorem ref_rows (U : Valuation τ sig (Elt F)) :
    after Lists.R.tail U (Proc.devRef .tc main_v40) =
      rows (Host.gather gather_S1638400_S1638400x1_S1638400_n_0_n_n_0_1_1 (flat (U (Proc.devRef .tc main_arg0)))
        (broadcastInDim S1638400x1 ![0] Facts₀.bcast_S1638400_S1638400x1_0
          (raised (wrap (fptosi 32 (Host.floor (times (U (Proc.devRef .tc main_v15))))) (U (Proc.devRef .tc main_v14)))))) := by
  unfold Lists.R.tail; after_reads_simp; rfl

theorem ref_arg (U : Valuation τ sig (Elt F)) :
    after Lists.R.tail U (Proc.devRef .tc main_arg0) = U (Proc.devRef .tc main_arg0) := by
  unfold Lists.R.tail; after_reads_simp

end

/-! ## The lines' buffers -/

theorem tail_bufs : ∀ op ∈ Lists.K.tail (F := F), op.bufs ⊆ tcRefs Cert.KernelIdeal.τ Cert.KernelIdeal.sig := by
  unfold Lists.K.tail
  repeat' with_reducible refine List.forall_mem_cons.mpr ⟨?_, ?_⟩
  all_goals first
    | exact Pairs.sub₁ _
    | exact Pairs.sub₂ _ _
    | exact Pairs.sub₃ _ _ _
    | exact Finset.insert_subset (devRef_mem_tcRefs _) (Pairs.sub₃ _ _ _)
    | exact fun _ h => (List.not_mem_nil h).elim

theorem tail_fresh : ∀ op ∈ Lists.K.tail (F := F), op.fresh = ∅ := by
  unfold Lists.K.tail
  repeat' with_reducible refine List.forall_mem_cons.mpr ⟨?_, ?_⟩
  all_goals first
    | exact fun _ h => (List.not_mem_nil h).elim
    | rfl

theorem back_bufs : ∀ op ∈ Lists.K.back (F := F), op.bufs ⊆ tcRefs Cert.KernelIdeal.τ Cert.KernelIdeal.sig := by
  intro op h
  obtain rfl := List.mem_singleton.mp h
  exact Pairs.sub₂ _ _

theorem back_fresh : ∀ op ∈ Lists.K.back (F := F), op.fresh = ∅ := by
  intro op h
  obtain rfl := List.mem_singleton.mp h
  rfl

theorem ref_bufs : ∀ op ∈ Lists.R.tail (F := F), op.bufs ⊆ tcRefs Cert.ReferenceIdeal.τ Cert.ReferenceIdeal.sig := by
  unfold Lists.R.tail
  repeat' with_reducible refine List.forall_mem_cons.mpr ⟨?_, ?_⟩
  all_goals first
    | exact Pairs.sub₁ _
    | exact Pairs.sub₂ _ _
    | exact Pairs.sub₃ _ _ _
    | exact Finset.insert_subset (devRef_mem_tcRefs _) (Pairs.sub₃ _ _ _)
    | exact fun _ h => (List.not_mem_nil h).elim

theorem ref_fresh : ∀ op ∈ Lists.R.tail (F := F), op.fresh = ∅ := by
  unfold Lists.R.tail
  repeat' with_reducible refine List.forall_mem_cons.mpr ⟨?_, ?_⟩
  all_goals first
    | exact fun _ h => (List.not_mem_nil h).elim
    | rfl

end Cert.Proof.Read

end
-- ==== Proof.Runs.lean ====
/-
  The runs of the two programs: where the draws' whole numbers lie in the range of rows (`Good`), the kernel's program runs to the
  end with its argument unchanged, its counters at zero and the table read at the places as its result; the reference's runs to
  the end likewise, and at the extended reals with the same result.
-/
module

public import proofs.«01_k».proof.Proof.Launch
public import proofs.«01_k».proof.Proof.Split
public import proofs.«01_k».proof.Proof.Read
public import Idealize.ShloMosaic.Lib.Quiescent

@[expose] public section

noncomputable section

namespace Cert.Proof.Runs

open Idealize.ShloMosaic Idealize.SL.Sem
open Idealize.ShloMosaic.StableHlo
open Cert.Proof.Pairs Cert.Proof.Draw Cert.Proof.Places Cert.Proof.Read Cert.Proof.Split

set_option maxRecDepth 8192

section Kernel

open Cert.KernelIdeal

variable {F : FTy → Type} [FloatOps F] [∀ e, Nonempty (Elt F e)]

/-- The table read at the places that the contents `U` after the draws give. -/
def result (U : Valuation τ sig (Elt F)) (x : (⟨S16384x100, .f32⟩ : BufTy).Contents (Elt F)) : (⟨S16384x100, .f32⟩ : BufTy).Contents (Elt F) :=
  rows fun j => flat x (Tile.word (wrap (fptosi 32 (Host.floor (times (U (Proc.devRef .tc main_v15))))) (U (Proc.devRef .tc main_v14)) j))

theorem kernel_run (hF : Good F) {l : List (HloOp τ sig (Elt F))} (hl : ∀ op ∈ l, Plain 1 op) (hd : Draws l)
    (hm : main (F := F) 0 = (seq l >>= fun _ => restK 0)) (m : (ℓ : Loc nD τ sig) → Buf (Elt F) ℓ) (ρ : Dev nD → PrngReg) :
    θ_run (defs (F := F)) (threads (F := F)) ⟨m, fun _ => 0, ρ⟩ fun r =>
      (∀ c : Dev nD, r.2.mem ((c.tc : Thread nD τ).loc main_v34)
            = result (after l (launchContents m c)) (m ((c.tc : Thread nD τ).loc main_arg0))
          ∧ r.2.mem ((c.tc : Thread nD τ).loc main_arg0) = m ((c.tc : Thread nD τ).loc main_arg0))
        ∧ r.2.sem = fun _ => 0 := by
  have hm' : ∀ d, main (F := F) d = (seq (l ++ Lists.K.tail) >>= fun _ => sc.run d 0 >>= fun _ => seq Lists.K.back) := by
    intro d
    obtain rfl : d = 0 := Subsingleton.elim _ _
    rw [hm, seq_append, bind_assoc]; rfl
  have hU : ∀ d, after l (launchContents m d) (Proc.devRef .tc main_arg0) = m ((d.tc : Thread nD τ).loc main_arg0) := fun d =>
    after_below hl rfl (by decide) _
  have hp : ∀ d, Launch.idf (l ++ Lists.K.tail) m d =
      wrap (fptosi 32 (Host.floor (times (after l (launchContents m d) (Proc.devRef .tc main_v15))))) (after l (launchContents m d) (Proc.devRef .tc main_v14)) := fun d => by
    show after (l ++ Lists.K.tail) _ _ = _
    rw [after_join]; exact tail_places _
  have hx : ∀ d, Launch.xf (l ++ Lists.K.tail) m d = flat (m ((d.tc : Thread nD τ).loc main_arg0)) := fun d => by
    show after (l ++ Lists.K.tail) _ _ = _
    rw [after_join]; exact (tail_table _).trans (congrArg flat (hU d))
  have ha : ∀ d, Launch.V₁ (l ++ Lists.K.tail) m d (Proc.devRef .tc main_arg0) = m ((d.tc : Thread nD τ).loc main_arg0) := fun d => by
    show after (l ++ Lists.K.tail) _ _ = _
    rw [after_join]; exact (tail_arg _).trans (hU d)
  refine θ_run_mono (Launch.run (l ++ Lists.K.tail) Lists.K.back m ρ hm' ?_ ?_ back_bufs back_fresh ?_) ?_
  · exact fun op h => (List.mem_append.mp h).elim (fun h => (hl op h).1) (tail_bufs op)
  · exact fun op h => (List.mem_append.mp h).elim (fun h => (hl op h).2.1) (tail_fresh op)
  · intro d j
    rw [hp]
    obtain ⟨w, e⟩ := hd (launchContents m d)
    rw [e]
    exact wrap_lt (hF w) _ j
  · rintro r ⟨h, hs⟩
    refine ⟨fun c => ⟨?_, ?_⟩, hs⟩
    · refine (h c _ (Pipeline.devRef_mem_ucRefs rfl)).trans ((back_rows _).trans ?_)
      rw [show Launch.V₂ (l ++ Lists.K.tail) m c (Proc.devRef .tc main_v33) = _ from Launch.V₂_o (l ++ Lists.K.tail) m c]
      unfold Tile.looked result
      rw [hx, hp]
      rfl
    · refine (h c _ (Pipeline.devRef_mem_ucRefs rfl)).trans ((back_arg _).trans ?_)
      rw [Launch.V₂_ne _ _ _ (Launch.ref_ne (by decide))]
      exact ha c

end Kernel

section Reference

open Cert.ReferenceIdeal

theorem reference_run {F : FTy → Type} [FloatOps F] {l : List (HloOp τ sig (Elt F))} (hl : ∀ op ∈ l, Plain 1 op)
    (hm : main (F := F) 0 = (seq l >>= fun _ => seq Lists.R.tail)) (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v40)
            = after Lists.R.tail (after l (launchContents m c)) (Proc.devRef .tc main_v40)
          ∧ r.2.mem ((c.tc : Thread nD τ).loc main_arg0) = m ((c.tc : Thread nD τ).loc main_arg0))
        ∧ r.2.sem = fun _ => 0 := by
  have hm' : ∀ d, IsSeq (main (F := F) d) (l ++ Lists.R.tail) := by
    intro d
    obtain rfl : d = 0 := Subsingleton.elim _ _
    unfold IsSeq
    rw [hm, seq_append]
  refine θ_run_mono (run_hlo (defs (F := F)) (main (F := F)) hm' (by decide) (by decide) ?_ ?_ m ρ) ?_
  · exact List.forall_iff_forall_mem.mpr fun op h => (List.mem_append.mp h).elim (fun h => (hl op h).1) (ref_bufs op)
  · exact fun op h => (List.mem_append.mp h).elim (fun h => (hl op h).2.1) (ref_fresh op)
  · intro r h
    refine ⟨fun c => ⟨(h c main_v40).trans ?_, (h c main_arg0).trans ?_⟩, sem_eq_zero_of_no_sems rfl _⟩
    · rw [after_join]
    · rw [after_join]
      exact (ref_arg _).trans (after_below hl rfl (by decide) _)

end Reference

/-! ## The two results -/

theorem agree_start {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Agree 1 (launchContents m c) (launchContents m' c) := by
  rintro r r' ⟨h₁, h₂, h₃, h₄⟩
  obtain rfl : r = Cert.KernelIdeal.main_arg0 := ref_eq h₁ rfl (by show r.idx.val = 0; omega)
  obtain rfl : r' = Cert.ReferenceIdeal.main_arg0 := ref_eq h₂ rfl (by show r'.idx.val = 0; omega)
  exact heq_of_eq h.symm

/-- The reference's result, of contents after the draws that agree, is the kernel's. -/
theorem same_result {U : Valuation Cert.KernelIdeal.τ Cert.KernelIdeal.sig (Elt Ideal)}
    {U' : Valuation Cert.ReferenceIdeal.τ Cert.ReferenceIdeal.sig (Elt Ideal)} (hU : Agree 784 U U')
    (hd : ∃ w, U (Proc.devRef .tc Cert.KernelIdeal.main_v15) = draw w) :
    after Lists.R.tail U' (Proc.devRef .tc Cert.ReferenceIdeal.main_v40)
      = result U (U (Proc.devRef .tc Cert.KernelIdeal.main_arg0)) := by
  obtain ⟨w, e⟩ := hd
  have e₀ : U (Proc.devRef .tc Cert.KernelIdeal.main_arg0) = U' (Proc.devRef .tc Cert.ReferenceIdeal.main_arg0) :=
    eq_of_heq (hU Cert.KernelIdeal.main_arg0 Cert.ReferenceIdeal.main_arg0 ⟨rfl, rfl, rfl, by decide⟩)
  have e₁ : U (Proc.devRef .tc Cert.KernelIdeal.main_v14) = U' (Proc.devRef .tc Cert.ReferenceIdeal.main_v14) :=
    eq_of_heq (hU Cert.KernelIdeal.main_v14 Cert.ReferenceIdeal.main_v14 ⟨rfl, rfl, rfl, by decide⟩)
  have e₂ : U (Proc.devRef .tc Cert.KernelIdeal.main_v15) = U' (Proc.devRef .tc Cert.ReferenceIdeal.main_v15) :=
    eq_of_heq (hU Cert.KernelIdeal.main_v15 Cert.ReferenceIdeal.main_v15 ⟨rfl, rfl, rfl, by decide⟩)
  refine (ref_rows U').trans ?_
  unfold result
  rw [← e₀, ← e₁, ← e₂, e, gathered _ (wrap_lt (good_ideal w) _)]

theorem same_run {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    {l : List (HloOp Cert.KernelIdeal.τ Cert.KernelIdeal.sig (Elt Ideal))} {l' : List (HloOp Cert.ReferenceIdeal.τ Cert.ReferenceIdeal.sig (Elt Ideal))}
    (hs : Steps 1 784 l l') (hd : Draws l) :
    after Lists.R.tail (after l' (launchContents m' c)) (Proc.devRef .tc Cert.ReferenceIdeal.main_v40)
      = result (after l (launchContents m c)) (m ((c.tc : Thread Cert.KernelIdeal.nD Cert.KernelIdeal.τ).loc Cert.KernelIdeal.main_arg0)) := by
  refine (same_result (hs.agree (agree_start c h)) (hd _)).trans (congrArg (result _) ?_)
  exact after_below hs.plain.1 rfl (by decide) _

end Cert.Proof.Runs

end
-- ==== Proof.Twin.lean ====
/-
  The kernel's two printed programs are one: the idealization rewrote nothing.
-/
module

public import proofs.«01_k».proof.Defs
public import proofs.«01_k».proof.Proof.Gen.Kernel
public import proofs.«01_k».proof.Proof.Gen.KernelIdeal

@[expose] public section

noncomputable section

namespace Cert.Proof.Twin

open Idealize.ShloMosaic

variable {F : FTy → Type} [FloatOps F]

set_option maxHeartbeats 4000000
set_option maxRecDepth 20000

theorem sig_eq : Cert.Kernel.sig = Cert.KernelIdeal.sig := rfl

theorem main_eq : (Cert.Kernel.main (F := F)) = (Cert.KernelIdeal.main (F := F)) := by with_unfolding_all rfl

theorem defs_eq : (Cert.Kernel.defs (F := F)) = (Cert.KernelIdeal.defs (F := F)) := by with_unfolding_all rfl

theorem threads_eq : (Cert.Kernel.threads (F := F)) = (Cert.KernelIdeal.threads (F := F)) := by
  unfold Cert.Kernel.threads Cert.KernelIdeal.threads
  rw [main_eq]
  with_unfolding_all rfl

end Cert.Proof.Twin

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_floors_in_range
public import Idealize.ShloMosaic.Adequacy
public import Idealize.ShloMosaic.Init
public import proofs.«01_k».proof.Proof.Runs
public import proofs.«01_k».proof.Proof.Twin

@[expose] public section

noncomputable section

namespace Cert.Proof

open Idealize.ShloMosaic Idealize.SL.Sem Cert.Kernel

theorem frame_kernel : quiescent_Kernel := by
  intro m g hp
  obtain ⟨l, l', hs, hd, hk, _⟩ := Split.split (F := Bits)
  have h := Runs.kernel_run (Read.good_bits (hp 0)) hs.plain.1 hd hk m g
  rw [← Twin.defs_eq, ← Twin.threads_eq] at h
  exact θ_run_mono h fun r h => ⟨fun c => (h.1 c).2, h.2⟩

theorem frame_ideal : quiescent_KernelIdeal := by
  intro m g _
  obtain ⟨l, l', hs, hd, hk, _⟩ := Split.split (F := Ideal)
  exact θ_run_mono (Runs.kernel_run Read.good_ideal hs.plain.1 hd hk m g) fun r h => ⟨fun c => (h.1 c).2, h.2⟩

theorem frame_ideal_pre : quiescent_KernelIdeal_pre_floors_in_range := fun m g _ => frame_ideal m g trivial

theorem frame_reference : quiescent_ReferenceIdeal := by
  intro m g _
  obtain ⟨l, l', hs, hd, _, hr⟩ := Split.split (F := Ideal)
  exact θ_run_mono (Runs.reference_run hs.plain.2 hr m g) fun r h => ⟨fun c => (h.1 c).2, h.2⟩

theorem value : algebraic_KernelIdeal_ReferenceIdeal := by
  intro m g m' g' _ hmm
  obtain ⟨l, l', hs, hd, hk, hr⟩ := Split.split (F := Ideal)
  refine ⟨_, θ_run_mono (Runs.kernel_run Read.good_ideal hs.plain.1 hd hk m g) fun r h => h.1,
    θ_run_mono (Runs.reference_run hs.plain.2 hr m' g') fun r h c => ⟨(h.1 c).1.trans ?_, (h.1 c).2⟩⟩
  exact Runs.same_run c (hmm c) hs hd

theorem claim : Cert.Claim := ⟨Cert.Kernel.Gen.facts, Cert.KernelIdeal.Gen.facts, Cert.ReferenceIdeal.Gen.facts,
  Cert.Pre_floors_in_range.Gen.facts, frame_kernel, frame_ideal, frame_ideal_pre, frame_reference, trivial, value⟩

end Cert.Proof

end
